-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x200 : Shape := ⟨2, ![4096, 200]⟩
abbrev S1000000x64 : Shape := ⟨2, ![1000000, 64]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S1000000x64 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 1000000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S1000000x64 : Shape := ⟨2, ![1000000, 64]⟩
abbrev S819200 : Shape := ⟨1, ![819200]⟩
abbrev S1000000x128 : Shape := ⟨2, ![1000000, 128]⟩
abbrev S819200x128 : Shape := ⟨2, ![819200, 128]⟩
abbrev S400 : Shape := ⟨1, ![400]⟩
abbrev S400x128 : Shape := ⟨2, ![400, 128]⟩
abbrev S_ : Shape := ⟨0, ![]⟩
abbrev S819200x64 : Shape := ⟨2, ![819200, 64]⟩
abbrev S4096x200x64 : Shape := ⟨3, ![4096, 200, 64]⟩

abbrev nBuf : Table → Nat
  | .hbm => 7
  | .local .scVector .vmem => 4
  | _ => 0

abbrev bufTy : (tb : Table) → Fin (nBuf tb) → BufTy
  | .hbm, ⟨0, _⟩ => ⟨S4096x200, .i32⟩
  | .hbm, ⟨1, _⟩ => ⟨S1000000x64, .f32⟩
  | .hbm, ⟨2, _⟩ => ⟨S819200, .i32⟩
  | .hbm, ⟨3, _⟩ => ⟨S1000000x128, .f32⟩
  | .hbm, ⟨4, _⟩ => ⟨S819200x128, .f32⟩
  | .hbm, ⟨5, _⟩ => ⟨S819200x64, .f32⟩
  | .hbm, ⟨6, _⟩ => ⟨S4096x200x64, .f32⟩
  | .local .scVector .vmem, ⟨0, _⟩ => ⟨S400, .i32⟩
  | .local .scVector .vmem, ⟨1, _⟩ => ⟨S400, .i32⟩
  | .local .scVector .vmem, ⟨2, _⟩ => ⟨S400x128, .f32⟩
  | .local .scVector .vmem, ⟨3, _⟩ => ⟨S400x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v3 : BitVec 32 := Scalar.addi v2 c0_i32
  ![v3.toNat]
@[reducible] def k0_t1_loop : Scf.Loop 32 :=
  let c0_i32_4 : BitVec 32 := 0#32
  let c32_i32 : BitVec 32 := 32#32
  let v13 : BitVec 32 := Scalar.addi c0_i32_4 c32_i32
  let c1_i32 : BitVec 32 := 1#32
  ⟨c0_i32_4, v13, c1_i32⟩
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_12 : BitVec 32 := 2#32
  let c0_i32_4 : BitVec 32 := 0#32
  let c1_i32 : BitVec 32 := 1#32
  let arg15 : BitVec 32 := Scf.iv c0_i32_4 c1_i32 k0_t1
  let v20 : BitVec 32 := Scalar.muli c2_i32_12 arg15
  let c400_i32_15 : BitVec 32 := 400#32
  let v22 : BitVec 32 := Scalar.muli v20 c400_i32_15
  let v23 : BitVec 32 := Scalar.addi v2 v22
  let c0_i32_16 : BitVec 32 := 0#32
  ![v23.toNat, 0]
def k0_cond1 (k0_t1 : Fin k0_t1_loop.trips) : BitVec 1 :=
  let c0_i32_4 : BitVec 32 := 0#32
  let c1_i32 : BitVec 32 := 1#32
  let arg15 : BitVec 32 := Scf.iv c0_i32_4 c1_i32 k0_t1
  let c31_i32 : BitVec 32 := 31#32
  let v26 : BitVec 1 := Scalar.cmpi .slt arg15 c31_i32
  let v27 : BitVec 32 := Scalar.extui v26
  let c0_i32_18 : BitVec 32 := 0#32
  let v28 : BitVec 1 := Scalar.cmpi .ne v27 c0_i32_18
  v28

def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_12 : BitVec 32 := 2#32
  let c0_i32_4 : BitVec 32 := 0#32
  let c1_i32 : BitVec 32 := 1#32
  let arg15 : BitVec 32 := Scf.iv c0_i32_4 c1_i32 k0_t1
  let v20 : BitVec 32 := Scalar.muli c2_i32_12 arg15
  let c2_i32_33 : BitVec 32 := 2#32
  let v47 : BitVec 32 := Scalar.addi v20 c2_i32_33
  let c400_i32_34 : BitVec 32 := 400#32
  let v48 : BitVec 32 := Scalar.muli v47 c400_i32_34
  let v49 : BitVec 32 := Scalar.addi v2 v48
  ![v49.toNat]
def k0_cond2 (k0_t1 : Fin k0_t1_loop.trips) : BitVec 1 :=
  let c0_i32_4 : BitVec 32 := 0#32
  let c1_i32 : BitVec 32 := 1#32
  let arg15 : BitVec 32 := Scf.iv c0_i32_4 c1_i32 k0_t1
  let c0_i32_19 : BitVec 32 := 0#32
  let v29 : BitVec 1 := Scalar.cmpi .sgt arg15 c0_i32_19
  let v30 : BitVec 32 := Scalar.extui v29
  let c0_i32_20 : BitVec 32 := 0#32
  let v31 : BitVec 1 := Scalar.cmpi .ne v30 c0_i32_20
  v31

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_12 : BitVec 32 := 2#32
  let c0_i32_4 : BitVec 32 := 0#32
  let c1_i32 : BitVec 32 := 1#32
  let arg15 : BitVec 32 := Scf.iv c0_i32_4 c1_i32 k0_t1
  let v20 : BitVec 32 := Scalar.muli c2_i32_12 arg15
  let c400_i32_33 : BitVec 32 := 400#32
  let v47 : BitVec 32 := Scalar.muli v20 c400_i32_33
  let v48 : BitVec 32 := Scalar.addi v2 v47
  let c0_i32_34 : BitVec 32 := 0#32
  ![v48.toNat, 0]
def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_12 : BitVec 32 := 2#32
  let c0_i32_4 : BitVec 32 := 0#32
  let c1_i32 : BitVec 32 := 1#32
  let arg15 : BitVec 32 := Scf.iv c0_i32_4 c1_i32 k0_t1
  let v20 : BitVec 32 := Scalar.muli c2_i32_12 arg15
  let c1_i32_21 : BitVec 32 := 1#32
  let v32 : BitVec 32 := Scalar.addi v20 c1_i32_21
  let c400_i32_22 : BitVec 32 := 400#32
  let v33 : BitVec 32 := Scalar.muli v32 c400_i32_22
  let v34 : BitVec 32 := Scalar.addi v2 v33
  ![v34.toNat]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_12 : BitVec 32 := 2#32
  let c0_i32_4 : BitVec 32 := 0#32
  let c1_i32 : BitVec 32 := 1#32
  let arg15 : BitVec 32 := Scf.iv c0_i32_4 c1_i32 k0_t1
  let v20 : BitVec 32 := Scalar.muli c2_i32_12 arg15
  let c1_i32_27 : BitVec 32 := 1#32
  let v39 : BitVec 32 := Scalar.addi v20 c1_i32_27
  let c400_i32_28 : BitVec 32 := 400#32
  let v40 : BitVec 32 := Scalar.muli v39 c400_i32_28
  let v41 : BitVec 32 := Scalar.addi v2 v40
  let c0_i32_29 : BitVec 32 := 0#32
  ![v41.toNat, 0]
def k0_cond3 (k0_t1 : Fin k0_t1_loop.trips) : BitVec 1 :=
  let c0_i32_4 : BitVec 32 := 0#32
  let c1_i32 : BitVec 32 := 1#32
  let arg15 : BitVec 32 := Scf.iv c0_i32_4 c1_i32 k0_t1
  let c31_i32_31 : BitVec 32 := 31#32
  let v44 : BitVec 1 := Scalar.cmpi .slt arg15 c31_i32_31
  let v45 : BitVec 32 := Scalar.extui v44
  let c0_i32_32 : BitVec 32 := 0#32
  let v46 : BitVec 1 := Scalar.cmpi .ne v45 c0_i32_32
  v46

def k0_off7 (i : grid0.Coords) (k0_t1 : Fin k0_t1_loop.trips) (c3_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_12 : BitVec 32 := 2#32
  let c0_i32_4 : BitVec 32 := 0#32
  let c1_i32 : BitVec 32 := 1#32
  let arg15 : BitVec 32 := Scf.iv c0_i32_4 c1_i32 k0_t1
  let v20 : BitVec 32 := Scalar.muli c2_i32_12 arg15
  let v47 : BitVec 32 := Scalar.addi v20 c3_i32
  let c400_i32_33 : BitVec 32 := 400#32
  let v48 : BitVec 32 := Scalar.muli v47 c400_i32_33
  let v49 : BitVec 32 := Scalar.addi v2 v48
  ![v49.toNat]
def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_12 : BitVec 32 := 2#32
  let c0_i32_4 : BitVec 32 := 0#32
  let c1_i32 : BitVec 32 := 1#32
  let arg15 : BitVec 32 := Scf.iv c0_i32_4 c1_i32 k0_t1
  let v20 : BitVec 32 := Scalar.muli c2_i32_12 arg15
  let c400_i32_34 : BitVec 32 := 400#32
  let v52 : BitVec 32 := Scalar.muli v20 c400_i32_34
  let v53 : BitVec 32 := Scalar.addi v2 v52
  let c0_i32_35 : BitVec 32 := 0#32
  ![v53.toNat, 0]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_6 : BitVec 32 := 0#32
  let v14 : BitVec 32 := Scalar.addi v2 c0_i32_6
  let c0_i32_7 : BitVec 32 := 0#32
  ![v14.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S1000000x64 : Shape := ⟨2, ![1000000, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x64, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x64, .f32⟩
  | .hbm, ⟨21, _⟩ => ⟨S4096x200x64, .i1⟩
  | .hbm, ⟨22, _⟩ => ⟨S_, .f32⟩
  | .hbm, ⟨23, _⟩ => ⟨S4096x200x64, .f32⟩
  | .hbm, ⟨24, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Pre.lean ====
/-
  What the precondition says: every index names a row of the table.
-/
module

public import proofs.«01_k».proof.Defs
public import proofs.«01_k».proof.Proof.Gen.Pre_in_range
public import Idealize.ShloMosaic.Lib.ReduceAll
public import Idealize.ShloMosaic.Lib.WordCmp

@[expose] public section

noncomputable section

namespace Cert.Proof.Pre

open Idealize.ShloMosaic
open Cert.Pre_in_range Cert.Pre_in_range.Gen

/-- A word that is not negative and is below 1000000, both read signed, is below 1000000 read as a natural number. -/
theorem word_lt (v : BitVec 32) (e : IntOp.andi (IntOp.cmpi .sge v 0#32) (IntOp.cmpi .slt v 1000000#32) = 1#1) : v.toNat < 1000000 := by
  have hone : ∀ p : Bool, (BitVec.ofBool p = 1#1) ↔ p = true := by decide
  simp only [IntOp.cmpi, WordCmp.andi_ofBool, hone, Bool.and_eq_true, BitVec.sle_eq_decide, BitVec.slt_eq_decide, decide_eq_true_eq,
    BitVec.toInt_eq_toNat_cond, BitVec.toNat_ofNat, Nat.reducePow, Nat.reduceMod] at e
  omega

/-- Under the precondition every index is below the table's number of rows. -/
theorem idx_lt {F : FTy → Type} [FloatOps F] (a : IVec S4096x200 32) (b : FVec F S1000000x64 .f32)
    (h : Cert.Pre_in_range.fn a b = fun _ => 1#1) (j : S4096x200.Idx) : (a j).toNat < 1000000 := by
  have e := congrFun h (Shape.Idx.first h_S_)
  dsimp only [Cert.Pre_in_range.fn] at e
  haveI : Subsingleton S_.Idx := ⟨fun x y => funext fun i => i.elim0⟩
  exact word_lt _ (Host.reduce_andi_all _ _ _ _ _ e j)

end Cert.Proof.Pre

end
-- ==== Proof.Copies.lean ====
/-
  The rules of a vector subcore's copies, stated through the values that the buffers hold.

  A buffer is described by what a memref reads from it (`Holds`), so that a rule speaks of the list, the rows or the
  chunk that a copy moves and not of the contents it overwrites. There is one rule for each of the four operations:
  a copy out of an array held whole (`wp_fetch`), a copy out of a buffer (`wp_send`), an indirect gather (`wp_take`)
  and a wait (`wp_await`). They hold for every program.
-/
module

public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.Tactic

@[expose] public section

noncomputable section

namespace Cert.Proof.Copies

open Idealize.ShloMosaic
open Idealize.ShloMosaic.SparseCore (rows gatherPayload enqueueIndirectGather)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- The buffer that `M` addresses is owned, and `M` reads `w` from it. -/
def Holds (c : Thread nD τ) {sp : Space} {s : Shape} {e : EltTy} (M : Memref sig c.2.kind sp s e) (w : s.Idx → Elt F e) : sProp 𝕄 :=
  iprop(∃ f, ⌜M.view.read (Elt F) f = w⌝ ∗ M.view.loc c ↦[M.view.set]{fullShare} f)

/-- The buffer that `M` addresses is owned, whatever it holds. -/
def Owned (c : Thread nD τ) {sp : Space} {s : Shape} {e : EltTy} (M : Memref sig c.2.kind sp s e) : sProp 𝕄 :=
  iprop(∃ f : Buf (Elt F) (M.view.loc c), M.view.loc c ↦[M.view.set]{fullShare} f)

/-- What the thread owes is unchanged, and the waits it has recorded beyond `W` are the transfers' own. -/
def Owes (c : Thread nD τ) (O : CellTallies nD τ sig (SparseCore.Cfg.HIx 1)) (W : Waits sig (SparseCore.Cfg.HIx 1)) :
    sProp (MT nD τ sig (SparseCore.Cfg.HIx 1) (Elt F) Name U Lvl) :=
  iprop(∃ W', ⌜∀ p ∈ W', p ∈ W ∨ p.2 = none⌝ ∗ owes c O W')

section Rules

variable {defs : Defs nD τ sig (Elt F) Λ} (EC : UEmb Counters (MT nD τ sig Ix (Elt F) Name U Lvl)) (𝒱 : Variants) (c : Thread nD τ) (bd : Option 𝒱.V)
variable {sp sp' : Space} {s₀ s si : Shape} {e : EltTy} {a : Nat}

/-- A buffer that holds a value is owned. -/
theorem Holds.owned {M : Memref sig c.2.kind sp s e} {w : s.Idx → Elt F e} : (Holds c M w : sProp 𝕄) ⊢ Owned c M := by
  unfold Holds Owned
  iintro ⟨%f, -, H⟩
  iexists f; iexact H

/-- The contents behind a buffer's value. -/
theorem holds_elim {M : Memref sig c.2.kind sp s e} {w : s.Idx → Elt F e} :
    (Holds c M w : sProp 𝕄) ⊢ iprop(∃ f, ⌜M.view.read (Elt F) f = w⌝ ∗ M.view.loc c ↦[M.view.set]{fullShare} f) := Entails.of_eq rfl

/-- A buffer after a write through all of `M` holds what was written. -/
theorem holds_write {M : Memref sig c.2.kind sp s e} (f : Buf (Elt F) (M.view.loc c)) (w : s.Idx → Elt F e) :
    (M.view.loc c ↦[M.view.set]{fullShare} (M.view.write (Elt F) f w Finset.univ) : sProp 𝕄) ⊢ Holds c M w := by
  unfold Holds
  iintro H
  iexists _
  isplitr
  swap; · iexact H
  ipureintro; exact View.read_write_univ f w

/-- A copy out of an array held whole, at any share: the flight delivers the destination holding what the source view
    reads, and the array. -/
theorem wp_fetch [Infinite Name] [EC.LandsIn (upEmb : UEmb _ 𝕄)]
    {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {Q : PUnit → sProp (MT nD τ sig Ix (Elt F) Name U Lvl)} {q : PosShare TreeShare} {fs : Buf (Elt F) (src.view.loc c)}
    (ι : Ix) (N : ℕ) (hN : dst.view.amount (.dma sem) = N) (hN0 : 0 < N) {w : s.Idx → Elt F e} (hw : src.view.read (Elt F) fs = w) :
    iprop((src.view.loc c ↦{q} fs) ∗ Owned c dst ∗ semVal (c, SemLoc.dma sem) 0)
      ⊢ iprop((Transfers.Flight EC c (.dma sem) ι N iprop(Holds c dst w ∗ (src.view.loc c ↦{q} fs)) -∗ Q ⟨⟩)
          -∗ wp frame (wpE defs 𝒱 c bd) Set.univ (Prog.lift (TpuEff.enqueueDma src (.here dst) (.dma sem) hsrc hdst hsem)) Q) := by
  subst hw
  unfold Owned
  iintro ⟨Hs, ⟨%fd, Hd⟩, Hv⟩ Hk
  iapply (Transfers.wp_dmaFromWhole EC 𝒱 c bd ι N hN hN0 (Finset.Subset.refl _)) $$ [Hs Hd Hv]
  · iframe Hs Hd Hv
  iintro Hfl
  rw [wp_ret]; imodintro
  iapply Hk
  iapply (Transfers.Flight_mono EC c (sep_mono_left (holds_write c fd _)))
  iexact Hfl

/-- A copy out of a buffer that holds `w`: the flight delivers the destination holding `w`, and the buffer. -/
theorem wp_send [Infinite Name] [EC.LandsIn (upEmb : UEmb _ 𝕄)]
    {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {Q : PUnit → sProp (MT nD τ sig Ix (Elt F) Name U Lvl)} {w : s.Idx → Elt F e}
    (ι : Ix) (N : ℕ) (hN : dst.view.amount (.dma sem) = N) (hN0 : 0 < N) :
    iprop(Holds c src w ∗ Owned c dst ∗ semVal (c, SemLoc.dma sem) 0)
      ⊢ iprop((Transfers.Flight EC c (.dma sem) ι N iprop(Holds c dst w ∗ Owned c src) -∗ Q ⟨⟩)
          -∗ wp frame (wpE defs 𝒱 c bd) Set.univ (Prog.lift (TpuEff.enqueueDma src (.here dst) (.dma sem) hsrc hdst hsem)) Q) := by
  unfold Owned
  iintro ⟨Hs, ⟨%fd, Hd⟩, Hv⟩ Hk
  ihave ⟨%fs, %hw, Hs⟩ := (holds_elim c) $$ Hs
  subst hw
  iapply (Transfers.wp_dmaLocal EC 𝒱 c bd ι N hN hN0 (Finset.Subset.refl _)) $$ [Hs Hd Hv]
  · iframe Hs Hd Hv
  iintro Hfl
  rw [wp_ret]; imodintro
  iapply Hk
  iapply (Transfers.Flight_mono EC c ?_) $$ Hfl
  iintro ⟨Hd, Hs⟩
  isplitl [Hd]
  · iapply (holds_write c fd _); iexact Hd
  iexists _; iexact Hs

/-- An indirect gather of the rows of a table held whole, at any share, that the list in `offs` names: the flight
    delivers the destination holding those rows, the table, and the list's buffer. -/
theorem wp_take [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {Q : PUnit → sProp (MT nD τ sig Ix (Elt F) Name U Lvl)}
    {q : PosShare TreeShare} {fs : Buf (Elt F) (src.view.loc c)} {w : si.Idx → Elt F .i32}
    (ι : Ix) (N : ℕ) (hN : ∑ j, (dst.slice (s.rowRect hg.axis' j) (s.stride_rowRect hg.axis' j)).view.dmaCredit = N)
    (hs : 0 < s.numel) (hin : ∀ x, (w x).toNat < s₀.size hg.axis)
    {v : s.Idx → Elt F e} (hv : gatherPayload hg (src.view.read (Elt F) fs) (rows w hn hin) = v) :
    iprop((src.view.loc c ↦{q} fs) ∗ Owned c dst ∗ Holds c offs w ∗ semVal (c, SemLoc.dma sem) 0)
      ⊢ iprop((Transfers.Flight EC c (.dma sem) ι N iprop(Holds c dst v ∗ (src.view.loc c ↦{q} fs) ∗ Owned c offs) -∗ Q ⟨⟩)
          -∗ wp frame (wpE defs 𝒱 c bd) Set.univ (enqueueIndirectGather hp src dst hg offs hn sem hsrc he hsp hr) Q) := by
  subst hv
  unfold Owned
  iintro ⟨Hs, ⟨%fd, Hd⟩, Ho, Hv⟩ Hk
  ihave ⟨%fo, %hw, Ho⟩ := (holds_elim c) $$ Ho
  subst hw
  ihave ⟨Hs, Hsr⟩ := (pointsTo_split_subset (Finset.subset_univ src.view.set)).1 $$ Hs
  rw [← bind_pure (enqueueIndirectGather hp src dst hg offs hn sem hsrc he hsp hr)]
  iapply (SparseCore.wp_indirectGatherLocal EC 𝒱 c bd ι N hN hs hin) $$ [Hs Hd Ho Hv]
  · iframe Hs Hd Ho Hv
  iintro Hfl
  rw [wp_pure]; imodintro
  iapply Hk
  ihave Hfl := (Transfers.Flight_frame EC c (R := (src.view.loc c ↦[Finset.univ \ src.view.set]{q} fs))) $$ [Hsr Hfl]
  · iframe Hsr Hfl
  iapply (Transfers.Flight_mono EC c ?_) $$ Hfl
  iintro ⟨Hsr, Hd, Hs, Ho⟩
  isplitl [Hd]
  · iapply (holds_write c fd _); iexact Hd
  isplitl [Hs Hsr]
  · iapply ((pointsTo_split_subset (Finset.subset_univ src.view.set)).2)
    iframe Hs Hsr
  iexists _; iexact Ho

end Rules

/-- A wait for a flight: what it delivers, and its semaphore back at zero. -/
theorem wp_await [Infinite Name] {defs : Defs nD τ sig (Elt F) Λ} (EC : UEmb Counters (MT nD τ sig (SparseCore.Cfg.HIx 1) (Elt F) Name U Lvl))
    [EC.LandsIn (upEmb : UEmb _ (MT nD τ sig (SparseCore.Cfg.HIx 1) (Elt F) Name U Lvl))]
    (𝒱 : Variants) (c : Thread nD τ) (bd : Option 𝒱.V) {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {Q : PUnit → sProp (MT nD τ sig (SparseCore.Cfg.HIx 1) (Elt F) Name U Lvl)} (N : ℕ) (hN : dstw.view.dmaCredit = N)
    {D : sProp (MT nD τ sig (SparseCore.Cfg.HIx 1) (Elt F) Name U Lvl)} {O : CellTallies nD τ sig (SparseCore.Cfg.HIx 1)}
    {W : Waits sig (SparseCore.Cfg.HIx 1)} :
    iprop(Transfers.MayWaits c (default : SparseCore.Cfg.HIx 1) O ∗ Transfers.Flight EC c (.dma sem) (default : SparseCore.Cfg.HIx 1) N D ∗ Owes c O W)
      ⊢ iprop((iprop(D ∗ semVal (c, SemLoc.dma sem) 0 ∗ Owes c O W) -∗ Q ⟨⟩)
          -∗ wp frame (wpE defs 𝒱 c bd) Set.univ (Prog.lift (TpuEff.waitDma2 sem srcw dstw hsrc hdst)) Q) := by
  unfold Owes
  iintro ⟨#Hmw, Hfl, ⟨%W', %hW', HO⟩⟩ Hk
  iapply (Transfers.wp_waitLocalO EC 𝒱 c bd (default : SparseCore.Cfg.HIx 1) hN) $$ [Hfl HO]
  · isplitl [Hfl]; · iexact Hfl
    isplitl [HO]; · iexact HO
    iapply (Transfers.MayWaits.elim (SemLoc.dma sem)) $$ Hmw
  iintro ⟨HD, Hv, HO⟩
  rw [wp_ret]; imodintro
  iapply Hk
  iframe HD Hv
  iexists _; isplitr
  swap; · iexact HO
  ipureintro; intro p hp
  rcases Finset.mem_insert.mp hp with hp | hp; · exact .inr (hp ▸ rfl)
  exact hW' p hp

end Cert.Proof.Copies

end
-- ==== Proof.KernelIdealTile.lean ====
/-
  One tile's task of `KernelIdeal`: thirty-two vector subcores look up 25600 indices each, in 64 chunks of 400.

  The values first: the chunk of the index list and the chunk of looked-up rows with number `n`, and what the slices of
  the program's arrays read and cover in those terms. Then the loop's invariant and the task from start to end, with the
  contents of the chunks that it writes.
-/
module

public import proofs.«01_k».proof.Defs
public import proofs.«01_k».proof.Proof.Copies
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import Idealize.ShloMosaic.Lib.ViewIndex
public import proofs.«01_k».proof.Proof.Gen.KernelIdeal
public import proofs.«01_k».proof.Proof.Gen.KernelIdeal.Skeleton

@[expose] public section

noncomputable section

namespace Cert.Proof.KernelIdealRun

open Cert.KernelIdeal Cert.KernelIdeal.Gen
open Cert.Proof.Copies

open Idealize.ShloMosaic
open Idealize.ShloMosaic.ValueIdx (ix1 ix2 eq_ix1 eq_ix2)
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program. -/
abbrev ΛP : Labels := Pipeline.Sig Λ₀ (Fin 0) fun p => (pcfgs (F := F) p).Adm
/-- The program's SparseCore calls. -/
abbrev K : SparseCore.Cfg τ sig (ΛP (F := F)) 1 := sc (F := F)
/-- The call runs on 2 SparseCores. -/
theorem nCore_zero : (K (F := F)).nCore 0 = 2 := rfl
/-- The call runs on 16 tiles of each. -/
theorem nSub_zero : (K (F := F)).nSub 0 = 16 := rfl
/-- The bodies of the program. -/
abbrev D [FloatOps F] : Defs nD τ sig (Elt F) (ΛP (F := F)) := Pipeline.defs pcfgs defs₀
/-- No loop needs a variant of its own. -/
abbrev 𝒱₀ : Variants := Variants.none
/-- The same for the program with its SparseCore calls. -/
abbrev 𝒱 : Variants := 𝒱₀.lift
/-- The variant at which the tiles run. -/
abbrev v₀ : 𝒱.V := Sum.inl none

/-- The launch semaphores are distinct and no kernel's, and no buffer is shared between a SparseCore's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

/-- The handshakes' ghost state. -/
abbrev UH : Type := URounds (GSem nD τ sig) ℕ
/-- All of the ghost state: the handshakes' and the counters'. -/
abbrev UU : Type := UH × Counters

local notation "𝕄" => MT nD τ sig (HIx 1) (Elt F) ℕ UU ℕ

/-- The handshakes' ghost state within all of it. -/
abbrev EH : Emb UH (MT nD τ sig (HIx 1) (Elt F) ℕ UU ℕ) := embL

/-! ## The arrays and the tile's buffers -/

/-- The place of the list of indices. -/
abbrev iLoc (d : Dev nD) : Loc nD τ sig := (SparseCore.T d).loc main_v0
/-- The place of the doubled table. -/
abbrev tLoc (d : Dev nD) : Loc nD τ sig := (SparseCore.T d).loc main_v1
/-- The place of the output. -/
abbrev oLoc (d : Dev nD) : Loc nD τ sig := (SparseCore.T d).loc main_v2

local notation "iV" => (Memref.whole Cert.KernelIdeal.main_v0_scv : Memref Cert.KernelIdeal.sig Kind.scVector Space.hbm Cert.KernelIdeal.S819200 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v2_scv : Memref Cert.KernelIdeal.sig Kind.scVector Space.hbm Cert.KernelIdeal.S819200x128 EltTy.f32)
local notation "x0V" => (Memref.whole Cert.KernelIdeal.cc0_scratch0 : Memref Cert.KernelIdeal.sig Kind.scVector Space.vmem Cert.KernelIdeal.S400 EltTy.i32)
local notation "x1V" => (Memref.whole Cert.KernelIdeal.cc0_scratch1 : Memref Cert.KernelIdeal.sig Kind.scVector Space.vmem Cert.KernelIdeal.S400 EltTy.i32)
local notation "r0V" => (Memref.whole Cert.KernelIdeal.cc0_scratch2 : Memref Cert.KernelIdeal.sig Kind.scVector Space.vmem Cert.KernelIdeal.S400x128 EltTy.f32)
local notation "r1V" => (Memref.whole Cert.KernelIdeal.cc0_scratch3 : Memref Cert.KernelIdeal.sig Kind.scVector Space.vmem Cert.KernelIdeal.S400x128 EltTy.f32)

/-- A run of 400 indices of the list, as the task addresses it. -/
abbrev iSl (off : Fin 1 → Nat) (h : ∀ a, off a + S400.size a ≤ S819200.size a) : Memref sig .scVector .hbm S400 .i32 :=
  (iV).slice (Rect.unit (s := S819200) off S400.size h) (fun _ => rfl)
/-- A slice of 400 rows of the output. -/
abbrev oSl (off : Fin 2 → Nat) (h : ∀ a, off a + S400x128.size a ≤ S819200x128.size a) : Memref sig .scVector .hbm S400x128 .f32 :=
  (oV).slice (Rect.unit (s := S819200x128) off S400x128.size h) (fun _ => rfl)
/-- The whole doubled table. -/
abbrev tSl : Memref sig .scVector .hbm S1000000x128 .f32 :=
  (tV).slice (Rect.unit (s := S1000000x128) ![0, 0] S1000000x128.size inb_S1000000x128_S1000000x128_0_0) (fun _ => rfl)

/-! ## The values -/

section Values

variable (fI : S819200.Idx → Elt F .i32) (fT : S1000000x128.Idx → Elt F .f32)

/-- The table row that position `p` of the list names. -/
def rowAt (p : Fin 819200) : Fin 1000000 := ⟨(fI (ix1 p)).toNat % 1000000, Nat.mod_lt _ (by decide)⟩

/-- What the call computes: row `p` of the output is the table's row that position `p` of the list names. -/
def G : S819200x128.Idx → Elt F .f32 := fun x => fT (ix2 (rowAt fI (x 0)) (x 1))

/-- Position `400 * n + y` of the list, as a position of the list whatever `n` is. -/
def posn (n y : ℕ) : Fin 819200 := ⟨(400 * n + y) % 819200, Nat.mod_lt _ (by decide)⟩

/-- The position of entry `y` of chunk `n`, as a number. -/
theorem posn_val {n y : ℕ} (h : 400 * n + y < 819200) : (posn n y).val = 400 * n + y := Nat.mod_eq_of_lt h

/-- Chunk `n` of the list. -/
def idxChunk (n : ℕ) : S400.Idx → Elt F .i32 := fun y => fI (ix1 (posn n (y 0).val))

/-- Chunk `n` of the output's rows. -/
def rowsChunk (n : ℕ) : S400x128.Idx → Elt F .f32 := fun y => G fI fT (ix2 (posn n (y 0).val) (y 1))

/-- The output's elements in chunk `n`. -/
def chunkSet (n : ℕ) : Finset S819200x128.Idx := Finset.univ.filter fun x => (x 0).val / 400 = n

/-- An element is in chunk `n` when its row is one of the chunk's 400. -/
theorem mem_chunkSet {n : ℕ} {x : S819200x128.Idx} : x ∈ chunkSet n ↔ (x 0).val / 400 = n := by
  unfold chunkSet; simp only [Finset.mem_filter, Finset.mem_univ, true_and]

/-- The list's slice at `400 * n` reads chunk `n`. -/
theorem read_iSl {off : Fin 1 → Nat} (h) {n : ℕ} (e : off = ![400 * n]) :
    (iSl off h).view.read (Elt F) fI = idxChunk fI n := by
  subst e
  funext y
  refine ((View.read_apply _ _).trans (cast_eq _ _)).trans ?_
  show fI _ = fI _
  have h0 := h 0
  have hy : (y 0).val < 400 := (y 0).isLt
  simp only [Matrix.cons_val_zero] at h0
  have hlt : 400 * n + (y 0).val < 819200 := by
    have : 400 * n + 400 ≤ 819200 := h0
    omega
  congr 1
  apply Shape.idx1_ext
  show 400 * n + 1 * (y 0).val = (posn n (y 0).val).val
  rw [posn_val hlt]; omega

/-- The table's slice reads the table. -/
theorem read_tSl : (tSl).view.read (Elt F) fT = fT := by
  funext y
  refine ((View.read_apply _ _).trans (cast_eq _ _)).trans ?_
  congr 1
  funext a
  apply Fin.ext
  match a with
  | ⟨0, _⟩ => show 0 + 1 * (y 0).val = (y 0).val; omega
  | ⟨1, _⟩ => show 0 + 1 * (y 1).val = (y 1).val; omega

/-- The rows of the table that chunk `n` of the list names are chunk `n` of the output's rows. -/
theorem gather_chunk (hpre : ∀ x, (fI x).toNat < 1000000) {n : ℕ} (hin) :
    gatherPayload gathers_S1000000x128_S400x128 ((tSl).view.read (Elt F) fT)
      (rows (F := F) (si := S400) (idxChunk fI n) rfl hin) = rowsChunk fI fT n := by
  rw [read_tSl]
  funext y
  show fT _ = fT _
  congr 1
  have hy : (y 0).val < 400 := (y 0).isLt
  rw [eq_ix2 (gathers_S1000000x128_S400x128.idx _ y)]
  congr 1
  · apply Fin.ext
    have e := gathers_S1000000x128_S400x128.idx_axis (rows (F := F) (si := S400) (idxChunk fI n) rfl hin) y
    refine (congrArg Fin.val e).trans ?_
    show (fI (ix1 (posn n (S400.rowMajor.symm _ 0).val))).toNat = (fI (ix1 (posn n (y 0).val))).toNat % 1000000
    rw [Nat.mod_eq_of_lt (hpre _)]
    congr 4
    refine (Shape.rowMajor_val_one (d := ![400]) _).symm.trans ?_
    exact congrArg Fin.val (Equiv.apply_symm_apply S400.rowMajor _)

/-- The output's slice at row `400 * n` covers chunk `n`. -/
theorem set_oSl {off : Fin 2 → Nat} (h) {n : ℕ} (e : off = ![400 * n, 0]) : (oSl off h).view.set = chunkSet n := by
  subst e
  show ((View.whole (main_v2_scv : Ref sig .scVector)).slice _).set = _
  rw [View.set_slice]
  refine (Finset.map_refl).trans ?_
  ext x
  rw [mem_chunkSet, Rect.mem_set_unit]
  have h1 : (x 1).val < 128 := (x 1).isLt
  constructor
  · intro hx
    have := hx 0
    have a1 : 400 * n ≤ (x 0).val := this.1
    have a2 : (x 0).val < 400 * n + 400 := this.2
    omega
  · intro hx a
    match a with
    | ⟨0, _⟩ =>
      show 400 * n ≤ (x 0).val ∧ (x 0).val < 400 * n + 400
      omega
    | ⟨1, _⟩ =>
      show 0 ≤ (x 1).val ∧ (x 1).val < 0 + 128
      omega

/-- A buffer whose slice at row `400 * n` reads chunk `n` of the rows is `G` on that chunk. -/
theorem eq_G_of_read {off : Fin 2 → Nat} (h) {n : ℕ} (e : off = ![400 * n, 0]) (f : S819200x128.Idx → Elt F .f32)
    (hf : (oSl off h).view.read (Elt F) f = rowsChunk fI fT n) : ∀ x ∈ chunkSet n, f x = G fI fT x := by
  subst e
  intro x hx
  have hx0 : (x 0).val < 819200 := (x 0).isLt
  have hx1 : (x 1).val < 128 := (x 1).isLt
  have hx := mem_chunkSet.mp hx
  obtain ⟨r, hr⟩ : ∃ r : Fin 400, (x 0).val = 400 * n + r.val := ⟨⟨(x 0).val - 400 * n, by omega⟩, by show _ = _ + (_ - _); omega⟩
  have hf := congrFun hf (ix2 (n0 := 400) (n1 := 128) r ⟨(x 1).val, hx1⟩)
  rw [(View.read_apply _ _).trans (cast_eq _ _)] at hf
  have e1 : (oSl ![400 * n, 0] h).view.emb (ix2 (n0 := 400) (n1 := 128) r ⟨(x 1).val, hx1⟩) = x := by
    funext a
    apply Fin.ext
    match a with
    | ⟨0, _⟩ => show 400 * n + 1 * r.val = (x 0).val; omega
    | ⟨1, _⟩ => show 0 + 1 * (x 1).val = (x 1).val; omega
  rw [e1] at hf
  refine hf.trans ?_
  have e2 : posn n r.val = x 0 := Fin.ext ((posn_val (by omega)).trans hr.symm)
  show fT (ix2 (rowAt fI (posn n r.val)) _) = fT (ix2 (rowAt fI (x 0)) (x 1))
  rw [e2]; rfl

end Values

end Cert.Proof.KernelIdealRun

end
-- ==== Proof.KernelIdealTask.lean ====
/-
  One tile's task of `KernelIdeal`, from start to end: the rules of its copies in terms of chunks, the invariant of its loop,
  and the contents of the output's chunks when it ends.
-/
module

public import proofs.«01_k».proof.Proof.KernelIdealTile

@[expose] public section

noncomputable section

namespace Cert.Proof.KernelIdealRun

open Cert.KernelIdeal Cert.KernelIdeal.Gen
open Cert.Proof.Copies

open Idealize.ShloMosaic
open Idealize.ShloMosaic.ValueIdx (ix1 ix2 eq_ix1 eq_ix2)
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S819200 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v2_scv : Memref Cert.KernelIdeal.sig Kind.scVector Space.hbm Cert.KernelIdeal.S819200x128 EltTy.f32)
local notation "x0V" => (Memref.whole Cert.KernelIdeal.cc0_scratch0 : Memref Cert.KernelIdeal.sig Kind.scVector Space.vmem Cert.KernelIdeal.S400 EltTy.i32)
local notation "x1V" => (Memref.whole Cert.KernelIdeal.cc0_scratch1 : Memref Cert.KernelIdeal.sig Kind.scVector Space.vmem Cert.KernelIdeal.S400 EltTy.i32)
local notation "r0V" => (Memref.whole Cert.KernelIdeal.cc0_scratch2 : Memref Cert.KernelIdeal.sig Kind.scVector Space.vmem Cert.KernelIdeal.S400x128 EltTy.f32)
local notation "r1V" => (Memref.whole Cert.KernelIdeal.cc0_scratch3 : Memref Cert.KernelIdeal.sig Kind.scVector Space.vmem Cert.KernelIdeal.S400x128 EltTy.f32)

/-- The tile's SparseCore. -/
abbrev cV (L : grid0.Coords) : Fin τ.nSC := (L 0).castLE hcore0
/-- The tile's number in its SparseCore. -/
abbrev jV (L : grid0.Coords) : Fin τ.nSub := (L 1).castLE hsub0

/-- The first of the 64 chunks of the task at `L`. -/
def base (L : grid0.Coords) : ℕ := 128 * (L 1).val + 64 * (L 0).val

section Task

variable (d : Dev nD) (L : grid0.Coords)
variable (fI : S819200.Idx → Elt F .i32) (fT : S1000000x128.Idx → Elt F .f32) (fO : S819200x128.Idx → Elt F .f32)

/-- The tile's thread. -/
abbrev thr (d : Dev nD) (L : grid0.Coords) : Thread nD τ := V d (cV L) (jV L)

/-- Bits that a copy of 400 indices moves. -/
def nX : ℕ := 12800
/-- Bits that a copy of 400 rows of 128 words moves. -/
def nR : ℕ := 1638400

/-- Chunk `n` of the output, at contents `f`. -/
def chunkPts (f : S819200x128.Idx → Elt F .f32) (n : ℕ) : sProp 𝕄 := oLoc d ↦[chunkSet n]{fullShare} f

/-- A semaphore of the task, at zero. -/
def zero (s : DmaSems sig S_) : sProp 𝕄 := semVal (thr d L, SemLoc.dma s.sem) 0

/-- The list, at share `q`. -/
def iPts (q : PosShare TreeShare) : sProp 𝕄 := iLoc d ↦{q} fI
/-- A share of the table. -/
def tPts (q : PosShare TreeShare) : sProp 𝕄 := tLoc d ↦{q} fT

/-- Chunk `n` of the list on its way to `x`. -/
def Fetching (s : DmaSems sig S_) (x : Memref sig .scVector .vmem S400 .i32) (q : PosShare TreeShare) (n : ℕ) : sProp 𝕄 :=
  Transfers.Flight countersEmb (thr d L) (.dma s.sem) (default : HIx 1) nX iprop(Holds (thr d L) x (idxChunk fI n) ∗ iPts d fI q)

/-- Chunk `n` of the rows on its way from the table to `r`, by the list in `x`. -/
def Taking (s : DmaSems sig S_) (r : Memref sig .scVector .vmem S400x128 .f32) (x : Memref sig .scVector .vmem S400 .i32)
    (q : PosShare TreeShare) (n : ℕ) : sProp 𝕄 :=
  Transfers.Flight countersEmb (thr d L) (.dma s.sem) (default : HIx 1) nR
    iprop(Holds (thr d L) r (rowsChunk fI fT n) ∗ tPts d fT q ∗ Owned (thr d L) x)

/-- Chunk `n` of the rows on its way from `r` to the output. -/
def Sending (s : DmaSems sig S_) (r : Memref sig .scVector .vmem S400x128 .f32) (n : ℕ) : sProp 𝕄 :=
  Transfers.Flight countersEmb (thr d L) (.dma s.sem) (default : HIx 1) nR
    iprop(chunkPts d (G fI fT) n ∗ Owned (thr d L) r)

variable [FloatOps F]

local notation "wpT" => wp frame (wpE (defs₀ (F := F)) 𝒱₀ (thr d L) none) Set.univ

/-- A fetch of chunk `n` of the list. -/
theorem wp_fetchChunk {s : DmaSems sig S_} (x : Memref sig .scVector .vmem S400 .i32) {q : PosShare TreeShare} {n : ℕ}
    {off : Fin 1 → Nat} {h} (e : off = ![400 * n]) {hsrc hdst hsem} {Q : PUnit → sProp 𝕄}
    (hx : x.view.amount (.dma s.sem) = nX) :
    iprop(iPts d fI q ∗ Owned (thr d L) x ∗ zero d L s)
      ⊢ iprop((Fetching d L fI s x q n -∗ Q ⟨⟩)
        -∗ wpT (Prog.lift (TpuEff.enqueueDma (iSl off h) (.here x) (.dma s.sem) hsrc hdst hsem)) Q) := by
  unfold iPts zero Fetching iPts
  exact wp_fetch (src := iSl off h) (fs := fI) countersEmb 𝒱₀ (thr d L) none (default : HIx 1) nX hx (by decide) (read_iSl fI h e)

/-- A gather of the rows that chunk `n` of the list names. -/
theorem wp_takeChunk (hpre : ∀ x, (fI x).toNat < 1000000) {s : DmaSems sig S_} (r : Memref sig .scVector .vmem S400x128 .f32)
    (x : Memref sig .scVector .vmem S400 .i32) {q : PosShare TreeShare} {n : ℕ}
    {hp hsrc hn he hsp hr} {Q : PUnit → sProp 𝕄}
    (hN : ∑ j, (r.slice (S400x128.rowRect gathers_S1000000x128_S400x128.axis' j) (S400x128.stride_rowRect gathers_S1000000x128_S400x128.axis' j)).view.dmaCredit = nR) :
    iprop(tPts d fT q ∗ Owned (thr d L) r ∗ Holds (thr d L) x (idxChunk fI n) ∗ zero d L s)
      ⊢ iprop((Taking d L fI fT s r x q n -∗ Q ⟨⟩)
        -∗ wpT (SparseCore.enqueueIndirectGather hp tSl r gathers_S1000000x128_S400x128 x hn s.sem hsrc he hsp hr) Q) := by
  unfold tPts zero Taking tPts
  exact wp_take (src := tSl) (fs := fT) (w := idxChunk fI n) countersEmb 𝒱₀ (thr d L) none (default : HIx 1) nR hN (by decide) (fun y => hpre _) (gather_chunk fI fT hpre _)

/-- A copy of chunk `n` of the rows to the output. -/
theorem wp_sendChunk {s : DmaSems sig S_} (r : Memref sig .scVector .vmem S400x128 .f32) {n : ℕ}
    {off : Fin 2 → Nat} {h} (e : off = ![400 * n, 0]) {hsrc hdst hsem} {Q : PUnit → sProp 𝕄} :
    iprop(Holds (thr d L) r (rowsChunk fI fT n) ∗ chunkPts d fO n ∗ zero d L s)
      ⊢ iprop((Sending d L fI fT s r n -∗ Q ⟨⟩)
        -∗ wpT (Prog.lift (TpuEff.enqueueDma r (.here (oSl off h)) (.dma s.sem) hsrc hdst hsem)) Q) := by
  have e1 := set_oSl h e
  unfold chunkPts zero
  iintro ⟨Hr, Ho, Hz⟩ Hk
  iapply (wp_send countersEmb 𝒱₀ (thr d L) none (default : HIx 1) nR (show _ = nR by rfl) (by decide)) $$ [Hr Ho Hz]
  · isplitl [Hr]; · iexact Hr
    isplitl [Ho]
    · unfold Owned
      iexists fO
      rw [e1]
      iexact Ho
    · iexact Hz
  iintro Hf
  iapply Hk
  unfold Sending
  iapply (Transfers.Flight_mono countersEmb (thr d L) (sep_mono_left ?_)) $$ Hf
  refine (holds_elim _).trans ?_
  iintro ⟨%f, %hf, H⟩
  have e2 : ((oLoc d) ↦[chunkSet n]{fullShare} f : sProp 𝕄) = (oLoc d) ↦[chunkSet n]{fullShare} (G fI fT) :=
    pointsTo_congr (eq_G_of_read fI fT h e f hf)
  rw [e1]
  unfold chunkPts
  rw [← e2]
  iexact H

/-! ## The waits -/

section Waits

variable {O : CellTallies nD τ sig (HIx 1)} {W : Waits sig (HIx 1)}

/-- A wait for a fetch. -/
theorem wp_fetched {s : DmaSems sig S_} (x : Memref sig .scVector .vmem S400 .i32) {q : PosShare TreeShare} {n : ℕ}
    {src : Memref sig .scVector .hbm S400 .i32} {hsrc hdst} {Q : PUnit → sProp 𝕄} (hx : x.view.dmaCredit = nX) :
    iprop(Transfers.MayWaits (thr d L) (default : HIx 1) O ∗ Fetching d L fI s x q n ∗ Owes (thr d L) O W)
      ⊢ iprop((iprop(Holds (thr d L) x (idxChunk fI n) ∗ iPts d fI q ∗ zero d L s ∗ Owes (thr d L) O W) -∗ Q ⟨⟩)
        -∗ wpT (Prog.lift (TpuEff.waitDma2 s.sem src x hsrc hdst)) Q) := by
  unfold Fetching zero
  iintro H Hk
  iapply (wp_await countersEmb 𝒱₀ (thr d L) none nX hx) $$ H
  iintro ⟨⟨H1, H2⟩, H3, H4⟩
  iapply Hk
  iframe H1 H2 H3 H4

/-- A wait for a gather. -/
theorem wp_taken {s : DmaSems sig S_} (r : Memref sig .scVector .vmem S400x128 .f32) (x : Memref sig .scVector .vmem S400 .i32)
    {q : PosShare TreeShare} {n : ℕ} {src : Memref sig .scVector .hbm S1000000x128 .f32} {hsrc hdst} {Q : PUnit → sProp 𝕄}
    (hr : r.view.dmaCredit = nR) :
    iprop(Transfers.MayWaits (thr d L) (default : HIx 1) O ∗ Taking d L fI fT s r x q n ∗ Owes (thr d L) O W)
      ⊢ iprop((iprop(Holds (thr d L) r (rowsChunk fI fT n) ∗ tPts d fT q ∗ Owned (thr d L) x ∗ zero d L s ∗ Owes (thr d L) O W) -∗ Q ⟨⟩)
        -∗ wpT (SparseCore.waitIndirectGather s.sem src r hsrc hdst) Q) := by
  unfold Taking zero
  iintro H Hk
  iapply (wp_await countersEmb 𝒱₀ (thr d L) none nR hr) $$ H
  iintro ⟨⟨H1, H2, H5⟩, H3, H4⟩
  iapply Hk
  iframe H1 H2 H3 H4 H5

/-- A wait for a copy to the output. -/
theorem wp_sent {s : DmaSems sig S_} (r : Memref sig .scVector .vmem S400x128 .f32) {n : ℕ}
    {off : Fin 2 → Nat} {h} {hsrc hdst} {Q : PUnit → sProp 𝕄} :
    iprop(Transfers.MayWaits (thr d L) (default : HIx 1) O ∗ Sending d L fI fT s r n ∗ Owes (thr d L) O W)
      ⊢ iprop((iprop(chunkPts d (G fI fT) n ∗ Owned (thr d L) r ∗ zero d L s ∗ Owes (thr d L) O W) -∗ Q ⟨⟩)
        -∗ wpT (Prog.lift (TpuEff.waitDma2 s.sem r (oSl off h) hsrc hdst)) Q) := by
  unfold Sending zero
  iintro H Hk
  iapply (wp_await countersEmb 𝒱₀ (thr d L) none nR (show _ = nR by rfl)) $$ H
  iintro ⟨⟨H1, H2⟩, H3, H4⟩
  iapply Hk
  iframe H1 H2 H3 H4

/-- A conditional that may do something before the rest `e` of the program. -/
theorem wp_branch {α : Type} {c : Prop} [Decidable c] {t : c → Prog (TpuEff nD τ sig (Elt F) Λ₀ (thr d L).2) α} {e : Prog (TpuEff nD τ sig (Elt F) Λ₀ (thr d L).2) α}
    {Q : α → sProp 𝕄} (R R' : sProp 𝕄)
    (ht : c → ∀ h, R ⊢ iprop((R' -∗ wpT e Q) -∗ wpT (t h) Q)) (he : ¬c → R ⊢ R') :
    R ⊢ iprop((R' -∗ wpT e Q) -∗ wpT (dite c t (fun _ => e)) Q) := by
  by_cases h : c
  · rw [dif_pos h]; exact ht h h
  · rw [dif_neg h]
    iintro H Hk
    iapply Hk
    iapply (he h); iexact H

end Waits

/-! ## The loop -/

/-- The first `j` chunks of the task, written. -/
def Done (j : ℕ) : sProp 𝕄 := bigSep (Finset.range j) fun g => chunkPts d (G fI fT) (base L + g)
/-- The chunks from the `j`-th on, at the output's old contents. -/
def Todo (j : ℕ) : sProp 𝕄 := bigSep (Finset.Ico j 64) fun g => chunkPts d fO (base L + g)

/-- One more chunk done. -/
theorem done_succ (j : ℕ) : Done d L fI fT (j + 1) = iprop(chunkPts d (G fI fT) (base L + j) ∗ Done d L fI fT j) := by
  unfold Done
  rw [Finset.range_add_one, SparseCore.bigSep_insert' (by simp)]

/-- One chunk fewer to do. -/
theorem todo_succ {j : ℕ} (h : j < 64) : Todo d L fO j = iprop(chunkPts d fO (base L + j) ∗ Todo d L fO (j + 1)) := by
  unfold Todo
  rw [← Finset.insert_Ico_add_one_left_eq_Ico h, SparseCore.bigSep_insert' (by simp)]

/-- The second row buffer before trip `k`: free before the first, on its way out before the others. -/
def Prev (k : ℕ) : sProp 𝕄 :=
  if k = 0 then iprop(Owned (thr d L) r1V ∗ zero d L cc0_scratch9) else Sending d L fI fT cc0_scratch9 r1V (base L + (2 * k - 1))

/-- What is in flight before trip `k`, and after the last. -/
def Pipe (q1 qT : PosShare TreeShare) (k : ℕ) : sProp 𝕄 :=
  if k < 32 then
    iprop(Taking d L fI fT cc0_scratch6 r0V x0V qT (base L + 2 * k) ∗ Fetching d L fI cc0_scratch5 x1V q1 (base L + (2 * k + 1))
      ∗ zero d L cc0_scratch8 ∗ Done d L fI fT (2 * k - 1))
  else
    iprop(Sending d L fI fT cc0_scratch8 r0V (base L + 62) ∗ Owned (thr d L) x0V ∗ tPts d fT qT ∗ Owned (thr d L) x1V ∗ iPts d fI q1
      ∗ zero d L cc0_scratch6 ∗ zero d L cc0_scratch5 ∗ Done d L fI fT 62)

/-- The loop's invariant before trip `k`. -/
def Inv (O : CellTallies nD τ sig (HIx 1)) (W : Waits sig (HIx 1)) (q0 q1 qT : PosShare TreeShare) (k : ℕ) : sProp 𝕄 :=
  iprop(Transfers.MayWaits (thr d L) (default : HIx 1) O ∗ Owes (thr d L) O W ∗ iPts d fI q0 ∗ zero d L cc0_scratch4 ∗ zero d L cc0_scratch7
    ∗ Prev d L fI fT k ∗ Todo d L fO (2 * k) ∗ Pipe d L fI fT q1 qT k)

/-- The invariant's parts before a trip. -/
theorem inv_open (O : CellTallies nD τ sig (HIx 1)) (W : Waits sig (HIx 1)) (q0 q1 qT : PosShare TreeShare) {k : ℕ} (hk : k < 32) :
    Inv d L fI fT fO O W q0 q1 qT k ⊢ iprop(Transfers.MayWaits (thr d L) (default : HIx 1) O ∗ Owes (thr d L) O W ∗ iPts d fI q0
      ∗ zero d L cc0_scratch4 ∗ zero d L cc0_scratch7 ∗ Prev d L fI fT k
      ∗ (chunkPts d fO (base L + 2 * k) ∗ chunkPts d fO (base L + (2 * k + 1)) ∗ Todo d L fO (2 * (k + 1)))
      ∗ Taking d L fI fT cc0_scratch6 r0V x0V qT (base L + 2 * k) ∗ Fetching d L fI cc0_scratch5 x1V q1 (base L + (2 * k + 1))
      ∗ zero d L cc0_scratch8 ∗ Done d L fI fT (2 * k - 1)) := by
  unfold Inv Pipe
  rw [if_pos hk, todo_succ d L fO (show 2 * k < 64 by omega), todo_succ d L fO (show 2 * k + 1 < 64 by omega)]
  exact .rfl

/-- The invariant's parts after a trip. -/
theorem inv_close (O : CellTallies nD τ sig (HIx 1)) (W : Waits sig (HIx 1)) (q0 q1 qT : PosShare TreeShare) {k : ℕ} :
    iprop(Transfers.MayWaits (thr d L) (default : HIx 1) O ∗ Owes (thr d L) O W ∗ iPts d fI q0
      ∗ zero d L cc0_scratch4 ∗ zero d L cc0_scratch7 ∗ Sending d L fI fT cc0_scratch9 r1V (base L + (2 * k + 1))
      ∗ Todo d L fO (2 * (k + 1)) ∗ Pipe d L fI fT q1 qT (k + 1)) ⊢ Inv d L fI fT fO O W q0 q1 qT (k + 1) := by
  unfold Inv Prev
  rw [if_neg (by omega), show 2 * (k + 1) - 1 = 2 * k + 1 by omega]

/-- What is in flight after a trip that is not the last. -/
theorem pipe_mid (q1 qT : PosShare TreeShare) {k : ℕ} (hk : k < 31) :
    iprop(Taking d L fI fT cc0_scratch6 r0V x0V qT (base L + 2 * (k + 1)) ∗ Fetching d L fI cc0_scratch5 x1V q1 (base L + (2 * (k + 1) + 1))
      ∗ zero d L cc0_scratch8 ∗ chunkPts d (G fI fT) (base L + 2 * k) ∗ Done d L fI fT (2 * k)) ⊢ Pipe d L fI fT q1 qT (k + 1) := by
  unfold Pipe
  rw [if_pos (by omega), show 2 * (k + 1) - 1 = 2 * k + 1 by omega, done_succ]
/-- What is in flight after the last trip. -/
theorem pipe_last (q1 qT : PosShare TreeShare) {k : ℕ} (hk : k = 31) :
    iprop(Sending d L fI fT cc0_scratch8 r0V (base L + 2 * k) ∗ Owned (thr d L) x0V ∗ tPts d fT qT ∗ Owned (thr d L) x1V ∗ iPts d fI q1
      ∗ zero d L cc0_scratch6 ∗ zero d L cc0_scratch5 ∗ Done d L fI fT (2 * k)) ⊢ Pipe d L fI fT q1 qT (k + 1) := by
  subst hk
  unfold Pipe
  rw [if_neg (by omega)]

/-- The list of the chunk after next: being fetched, but in the last trip. -/
def Next (q0 : PosShare TreeShare) (k : ℕ) : sProp 𝕄 :=
  if k < 31 then Fetching d L fI cc0_scratch4 x0V q0 (base L + 2 * (k + 1))
  else iprop(iPts d fI q0 ∗ Owned (thr d L) x0V ∗ zero d L cc0_scratch4)
/-- In a trip that is not the last, the list of the chunk after next is being fetched. -/
theorem next_mid (q0 : PosShare TreeShare) {k : ℕ} (hk : k < 31) :
    Next d L fI q0 k = Fetching d L fI cc0_scratch4 x0V q0 (base L + 2 * (k + 1)) := if_pos hk
/-- In the last trip no further list is fetched. -/
theorem next_last (q0 : PosShare TreeShare) {k : ℕ} (hk : ¬ k < 31) :
    Next d L fI q0 k = iprop(iPts d fI q0 ∗ Owned (thr d L) x0V ∗ zero d L cc0_scratch4) := if_neg hk

/-- Before the first trip the second row buffer is free. -/
theorem prev_first {k : ℕ} (hk : k = 0) : Prev d L fI fT k = iprop(Owned (thr d L) r1V ∗ zero d L cc0_scratch9) := if_pos hk
/-- Before a later trip the second row buffer is on its way out. -/
theorem prev_later {k : ℕ} (hk : k ≠ 0) : Prev d L fI fT k = Sending d L fI fT cc0_scratch9 r1V (base L + (2 * k - 1)) := if_neg hk

/-- The first condition says that another trip follows. -/
theorem cond1_iff : ∀ k : Fin k0_t1_loop.trips, k0_cond1 k = 1#1 ↔ k.val < 31 := by decide +kernel
/-- The second condition says that a trip came before. -/
theorem cond2_iff : ∀ k : Fin k0_t1_loop.trips, k0_cond2 k = 1#1 ↔ 0 < k.val := by decide +kernel
/-- The third condition says that another trip follows. -/
theorem cond3_iff : ∀ k : Fin k0_t1_loop.trips, k0_cond3 k = 1#1 ↔ k.val < 31 := by decide +kernel
/-- The loop has 32 trips. -/
theorem trips_eq : k0_t1_loop.trips = 32 := by decide +kernel

/-- The bits that a gather of 400 rows moves into the first row buffer, row by row, are those of the whole. -/
theorem rows_credit0 (h : S1000000x128.Gathers 0 S400x128) :
    ∑ j, ((r0V).slice (S400x128.rowRect h.axis' j) (S400x128.stride_rowRect h.axis' j)).view.dmaCredit = nR :=
  (SparseCore.sum_rowCredit_eq_dmaCredit r0V h.axis' (fun _ => rfl)).trans (show _ = nR by rfl)
/-- The same for the second row buffer. -/
theorem rows_credit1 (h : S1000000x128.Gathers 0 S400x128) :
    ∑ j, ((r1V).slice (S400x128.rowRect h.axis' j) (S400x128.stride_rowRect h.axis' j)).view.dmaCredit = nR :=
  (SparseCore.sum_rowCredit_eq_dmaCredit r1V h.axis' (fun _ => rfl)).trans (show _ = nR by rfl)

variable (hpre : ∀ x, (fI x).toNat < 1000000)

set_option maxHeartbeats 4000000 in
include hpre in
/-- One trip of the loop. -/
theorem trip (O : CellTallies nD τ sig (HIx 1)) (W : Waits sig (HIx 1)) (q0 q1 qT : PosShare TreeShare) (k : Fin k0_t1_loop.trips) :
    Inv d L fI fT fO O W q0 q1 qT k.val
      ⊢ wpT (k0_t1_body L iV (Memref.isWhole_whole _) tV (Memref.isWhole_whole _) oV (Memref.isWhole_whole _)
          x0V (Memref.isWhole_whole _) x1V (Memref.isWhole_whole _) r0V (Memref.isWhole_whole _) r1V (Memref.isWhole_whole _)
          cc0_scratch4 cc0_scratch5 cc0_scratch6 cc0_scratch7 cc0_scratch8 cc0_scratch9 k ⟨⟩)
        fun _ => Inv d L fI fT fO O W q0 q1 qT (k.val + 1) := by
  have hk : k.val < 32 := lt_of_lt_of_eq k.isLt trips_eq
  have e2 : k0_off2 L k = ![400 * (base L + 2 * k.val), 0] := (k0_off2_eq L k).trans (congrArg (fun z => ![z, 0]) (by unfold base; omega))
  have e3 : k0_off3 L k = ![400 * (base L + 2 * (k.val + 1))] := (k0_off3_eq L k).trans (congrArg (fun z => ![z]) (by unfold base; omega))
  have e6 : k0_off6 L k = ![400 * (base L + (2 * k.val + 1)), 0] := (k0_off6_eq L k).trans (congrArg (fun z => ![z, 0]) (by unfold base; omega))
  have e7 : k0_off7 L k 3#32 = ![400 * (base L + (2 * (k.val + 1) + 1))] :=
    (k0_off7_eq L k 1).trans (congrArg (fun z => ![z]) (by unfold base; show _ + 400 * 1 + 800 = _; omega))
  refine (inv_open d L fI fT fO O W q0 q1 qT hk).trans ?_
  unfold k0_t1_body
  simp only [wp_bind]
  iintro ⟨#Hmw, HO, Hi0, Hs4, Hs7, Hprev, ⟨Hc0, Hc1, Htodo⟩, ⟨Htake, Hfetch, Hs8, Hdone⟩⟩
  -- the rows of chunk `2 k` have arrived, and go out
  iapply (wp_taken d L fI fT r0V x0V (show _ = nR by rfl)) $$ [Htake HO]
  · iframe Hmw Htake HO
  iintro ⟨Hr0, Ht, Hx0, Hs6, HO⟩
  iapply (wp_sendChunk d L fI fT fO r0V (n := base L + 2 * k.val) e2) $$ [Hr0 Hc0 Hs8]
  · iframe Hr0 Hc0 Hs8
  iintro Hsend0
  -- the list of chunk `2 k + 2` is fetched, but in the last trip
  iapply (wp_branch d L iprop(iPts d fI q0 ∗ Owned (thr d L) x0V ∗ zero d L cc0_scratch4) (Next d L fI q0 k.val) (fun h _ => ?br1a) (fun h => ?br1b)) $$ [Hi0 Hx0 Hs4]
  case br1a =>
    rw [next_mid d L fI q0 ((cond1_iff k).mp h)]
    simp only [wp_bind]
    iintro H Hk
    iapply (wp_fetchChunk d L fI x0V e3 (show _ = nX by rfl)) $$ H
    iintro H
    iapply Hk; iexact H
  case br1b =>
    rw [next_last d L fI q0 (fun h' => h ((cond1_iff k).mpr h'))]
  · iframe Hi0 Hx0 Hs4
  iintro Hnext
  simp only [wp_bind]
  -- the second row buffer is free, its rows of chunk `2 k - 1` out
  iapply (wp_branch d L iprop(Transfers.MayWaits (thr d L) (default : HIx 1) O ∗ Prev d L fI fT k.val ∗ Owes (thr d L) O W ∗ Done d L fI fT (2 * k.val - 1))
    iprop(Owned (thr d L) r1V ∗ zero d L cc0_scratch9 ∗ Owes (thr d L) O W ∗ Done d L fI fT (2 * k.val)) (fun h _ => ?br2a) (fun h => ?br2b)) $$ [Hprev HO Hdone]
  case br2a =>
    have h0 := (cond2_iff k).mp h
    rw [prev_later d L fI fT (by omega), show Done d L fI fT (2 * k.val) = Done d L fI fT ((2 * k.val - 1) + 1) from congrArg _ (by omega), done_succ]
    simp only [wp_bind]
    iintro ⟨#Hmw, Hp, HO, Hdone⟩ Hk
    iapply (wp_sent d L fI fT r1V) $$ [Hp HO]
    · iframe Hmw Hp HO
    iintro ⟨Hc, Hr, Hs, HO⟩
    iapply Hk
    iframe Hr Hs HO Hc Hdone
  case br2b =>
    have h0 : k.val = 0 := by
      by_contra hne
      exact h ((cond2_iff k).mpr (by omega))
    rw [prev_first d L fI fT h0, h0]
    iintro ⟨-, ⟨Hr, Hs⟩, HO, Hdone⟩
    iframe Hr Hs HO Hdone
  · iframe Hmw Hprev HO Hdone
  iintro ⟨Hr1, Hs9, HO, Hdone⟩
  simp only [wp_bind]
  -- the list of chunk `2 k + 1` has arrived; its rows are gathered, and go out
  iapply (wp_fetched d L fI x1V (show _ = nX by rfl)) $$ [Hfetch HO]
  · iframe Hmw Hfetch HO
  iintro ⟨Hx1, Hi1, Hs5, HO⟩
  iapply (wp_takeChunk d L fI fT hpre r1V x1V (rows_credit1 _)) $$ [Ht Hr1 Hx1 Hs7]
  · iframe Ht Hr1 Hx1 Hs7
  iintro Htake
  iapply (wp_taken d L fI fT r1V x1V (show _ = nR by rfl)) $$ [Htake HO]
  · iframe Hmw Htake HO
  iintro ⟨Hr1, Ht, Hx1, Hs7, HO⟩
  iapply (wp_sendChunk d L fI fT fO r1V (n := base L + (2 * k.val + 1)) e6) $$ [Hr1 Hc1 Hs9]
  · iframe Hr1 Hc1 Hs9
  iintro Hsend1
  -- the next trip's gather is started, but in the last trip
  iapply (wp_branch d L iprop(Transfers.MayWaits (thr d L) (default : HIx 1) O ∗ Owes (thr d L) O W ∗ Next d L fI q0 k.val
      ∗ Sending d L fI fT cc0_scratch8 r0V (base L + 2 * k.val) ∗ Owned (thr d L) x1V ∗ iPts d fI q1 ∗ zero d L cc0_scratch5
      ∗ tPts d fT qT ∗ zero d L cc0_scratch6 ∗ Done d L fI fT (2 * k.val))
    iprop(Owes (thr d L) O W ∗ iPts d fI q0 ∗ zero d L cc0_scratch4 ∗ Pipe d L fI fT q1 qT (k.val + 1)) (fun h _ => ?br3a) (fun h => ?br3b))
    $$ [HO Hnext Hsend0 Hx1 Hi1 Hs5 Ht Hs6 Hdone]
  case br3a =>
    have h0 := (cond3_iff k).mp h
    rw [next_mid d L fI q0 h0]
    simp only [wp_bind]
    iintro ⟨#Hmw, HO, Hnext, Hsend, Hx1, Hi1, Hs5, Ht, Hs6, Hdone⟩ Hk
    iapply (wp_fetchChunk d L fI x1V e7 (show _ = nX by rfl)) $$ [Hi1 Hx1 Hs5]
    · iframe Hi1 Hx1 Hs5
    iintro Hf1
    iapply (wp_sent d L fI fT r0V) $$ [Hsend HO]
    · iframe Hmw Hsend HO
    iintro ⟨Hc, Hr0, Hs8, HO⟩
    iapply (wp_fetched d L fI x0V (show _ = nX by rfl)) $$ [Hnext HO]
    · iframe Hmw Hnext HO
    iintro ⟨Hx0, Hi0, Hs4, HO⟩
    iapply (wp_takeChunk d L fI fT hpre r0V x0V (rows_credit0 _)) $$ [Ht Hr0 Hx0 Hs6]
    · iframe Ht Hr0 Hx0 Hs6
    iintro Htake
    iapply Hk
    iframe HO Hi0 Hs4
    iapply (pipe_mid d L fI fT q1 qT h0)
    iframe Htake Hf1 Hs8 Hc Hdone
  case br3b =>
    have h0 : ¬ k.val < 31 := fun h' => h ((cond3_iff k).mpr h')
    rw [next_last d L fI q0 h0]
    iintro ⟨-, HO, ⟨Hi0, Hx0, Hs4⟩, Hsend, Hx1, Hi1, Hs5, Ht, Hs6, Hdone⟩
    iframe HO Hi0 Hs4
    iapply (pipe_last d L fI fT q1 qT (show k.val = 31 by omega))
    iframe Hsend Hx0 Ht Hx1 Hi1 Hs6 Hs5 Hdone
  · iframe Hmw HO Hnext Hsend0 Hx1 Hi1 Hs5 Ht Hs6 Hdone
  iintro ⟨HO, Hi0, Hs4, Hpipe⟩
  rw [wp_pure]; imodintro
  iapply (inv_close d L fI fT fO O W q0 q1 qT)
  iframe Hmw HO Hi0 Hs4 Hs7 Hsend1 Htodo Hpipe

end Task

/-! ## The tile's own buffers and semaphores -/

section Own

variable (d : Dev nD) (L : grid0.Coords)

/-- The cell of a semaphore of the task. -/
abbrev cell (s : DmaSems sig S_) : GSem nD τ sig := (thr d L, SemLoc.dma s.sem)

/-- A scoped semaphore is one of the tile's own. -/
theorem cell_mem (s : DmaSems sig S_) (h : (SemLoc.dma s.sem : SemLoc sig).isScoped .scVector = true) : cell d L s ∈ ownCells (thr d L) :=
  mem_ownCells.mpr ⟨rfl, h⟩

/-- Different semaphores have different cells. -/
theorem cell_ne {a b : DmaSems sig S_} (h : a.sem ≠ b.sem) : cell d L a ≠ cell d L b := fun e =>
  h (SemLoc.dma.inj (congrArg Prod.snd e))

/-- The cells of the tile that the task does not name. -/
def otherCells : Finset (GSem nD τ sig) :=
  ((((((ownCells (thr d L)).erase (cell d L cc0_scratch4)).erase (cell d L cc0_scratch5)).erase (cell d L cc0_scratch6)).erase
    (cell d L cc0_scratch7)).erase (cell d L cc0_scratch8)).erase (cell d L cc0_scratch9)

/-- The tile's semaphores at zero: the task's six, and the others. -/
theorem ownSems0_V :
    (ownSems0 (thr d L) : sProp 𝕄)
      = iprop(zero d L cc0_scratch4 ∗ zero d L cc0_scratch5 ∗ zero d L cc0_scratch6 ∗ zero d L cc0_scratch7 ∗ zero d L cc0_scratch8
          ∗ zero d L cc0_scratch9 ∗ bigSep (otherCells d L) fun g => semVal g 0) := by
  unfold SparseCore.Cfg.ownSems0 otherCells zero
  rw [SparseCore.bigSep_erase' (cell_mem d L cc0_scratch4 (by decide)),
    SparseCore.bigSep_erase' (i := cell d L cc0_scratch5)
      (by simp only [Finset.mem_erase]; exact ⟨cell_ne d L (by decide), cell_mem d L _ (by decide)⟩),
    SparseCore.bigSep_erase' (i := cell d L cc0_scratch6)
      (by simp only [Finset.mem_erase]; exact ⟨cell_ne d L (by decide), cell_ne d L (by decide), cell_mem d L _ (by decide)⟩),
    SparseCore.bigSep_erase' (i := cell d L cc0_scratch7)
      (by simp only [Finset.mem_erase]
          exact ⟨cell_ne d L (by decide), cell_ne d L (by decide), cell_ne d L (by decide), cell_mem d L _ (by decide)⟩),
    SparseCore.bigSep_erase' (i := cell d L cc0_scratch8)
      (by simp only [Finset.mem_erase]
          exact ⟨cell_ne d L (by decide), cell_ne d L (by decide), cell_ne d L (by decide), cell_ne d L (by decide), cell_mem d L _ (by decide)⟩),
    SparseCore.bigSep_erase' (i := cell d L cc0_scratch9)
      (by simp only [Finset.mem_erase]
          exact ⟨cell_ne d L (by decide), cell_ne d L (by decide), cell_ne d L (by decide), cell_ne d L (by decide), cell_ne d L (by decide),
            cell_mem d L _ (by decide)⟩)]

/-- A buffer of the tile, as the device names it. -/
abbrev buf (b : Ref sig .scVector) : DevRef τ sig := (Proc.scVector (cV L) (jV L)).devRef b

/-- Different buffers are different places. -/
theorem buf_ne {a b : Ref sig .scVector} (h : a ≠ b) : buf L a ≠ buf L b := fun e => h (Proc.devRef_injective _ e)

/-- The buffers of the tile that the task does not name. -/
def otherBufs : Finset (DevRef τ sig) :=
  ((((ownRefs (τ := τ) (.scVector (cV L) (jV L))).erase (buf L cc0_scratch0)).erase (buf L cc0_scratch1)).erase (buf L cc0_scratch2)).erase
    (buf L cc0_scratch3)

/-- A whole buffer is owned when it holds something. -/
theorem owned_whole (b : Ref sig .scVector) :
    (Owned (thr d L) (Memref.whole b) : sProp 𝕄) = iprop(∃ f : Buf (Elt F) ((d, buf L b) : Loc nD τ sig), ((d, buf L b) : Loc nD τ sig) ↦{fullShare} f) := by
  unfold Owned
  rw [show (Memref.whole b).view.set = Finset.univ from View.set_whole b]

/-- The tile's buffers: the task's four, and the others. -/
theorem ownBufs_V :
    (ownBufs (thr d L) : sProp 𝕄)
      = iprop(Owned (thr d L) x0V ∗ Owned (thr d L) x1V ∗ Owned (thr d L) r0V ∗ Owned (thr d L) r1V
          ∗ bigSep (otherBufs L) fun b => iprop(∃ f, ((d, b) : Loc nD τ sig) ↦{fullShare} f)) := by
  rw [owned_whole, owned_whole, owned_whole, owned_whole]
  unfold SparseCore.Cfg.ownBufs otherBufs
  have hm : ∀ b : Ref sig .scVector, (buf L b).owner = .proc (.scVector (cV L) (jV L)) → buf L b ∈ ownRefs (τ := τ) (.scVector (cV L) (jV L)) :=
    fun b h => SparseCore.Cfg.mem_ownRefs_of_owner h
  refine (SparseCore.bigSep_erase' (hm cc0_scratch0 rfl)).trans ?_
  rw [SparseCore.bigSep_erase' (i := buf L cc0_scratch1)
      (by simp only [Finset.mem_erase]; exact ⟨buf_ne L (by decide), hm _ rfl⟩),
    SparseCore.bigSep_erase' (i := buf L cc0_scratch2)
      (by simp only [Finset.mem_erase]; exact ⟨buf_ne L (by decide), buf_ne L (by decide), hm _ rfl⟩),
    SparseCore.bigSep_erase' (i := buf L cc0_scratch3)
      (by simp only [Finset.mem_erase]; exact ⟨buf_ne L (by decide), buf_ne L (by decide), buf_ne L (by decide), hm _ rfl⟩)]

end Own

/-! ## The task from start to end -/

section Body

variable (d : Dev nD) (L : grid0.Coords)
variable (fI : S819200.Idx → Elt F .i32) (fT : S1000000x128.Idx → Elt F .f32) (fO : S819200x128.Idx → Elt F .f32)
variable [FloatOps F]

/-- A share of the list is two shares of it. -/
theorem iPts_split (q : PosShare TreeShare) : (iPts d fI q : sProp 𝕄) ⊣⊢ iprop(iPts d fI q.left ∗ iPts d fI q.right) :=
  pointsTo_share (PosShare.mem_left_op_right q)

/-- The invariant's parts before the first trip, and after the last. -/
theorem inv_first (O : CellTallies nD τ sig (HIx 1)) (W : Waits sig (HIx 1)) (q0 q1 qT : PosShare TreeShare) :
    iprop(Transfers.MayWaits (thr d L) (default : HIx 1) O ∗ Owes (thr d L) O W ∗ iPts d fI q0
      ∗ zero d L cc0_scratch4 ∗ zero d L cc0_scratch7 ∗ Owned (thr d L) r1V ∗ zero d L cc0_scratch9
      ∗ Todo d L fO 0 ∗ Taking d L fI fT cc0_scratch6 r0V x0V qT (base L) ∗ Fetching d L fI cc0_scratch5 x1V q1 (base L + 1)
      ∗ zero d L cc0_scratch8) ⊢ Inv d L fI fT fO O W q0 q1 qT 0 := by
  unfold Inv Prev Pipe
  rw [if_pos rfl, if_pos (by omega)]
  have h0 : (emp : sProp 𝕄) ⊢ Done d L fI fT (2 * 0 - 1) := Entails.of_eq (bigSep_empty (I := ℕ)).symm
  iintro ⟨Hmw, HO, Hi, Hs4, Hs7, Hr1, Hs9, Htodo, Ht, Hf, Hs8⟩
  iframe Hmw HO Hi Hs4 Hs7 Hr1 Hs9 Htodo Ht Hf Hs8
  iapply h0
  itrivial

/-- The invariant's parts after the last trip. -/
theorem inv_last (O : CellTallies nD τ sig (HIx 1)) (W : Waits sig (HIx 1)) (q0 q1 qT : PosShare TreeShare) :
    Inv d L fI fT fO O W q0 q1 qT 32 ⊢ iprop(Transfers.MayWaits (thr d L) (default : HIx 1) O ∗ Owes (thr d L) O W ∗ iPts d fI q0
      ∗ zero d L cc0_scratch4 ∗ zero d L cc0_scratch7 ∗ Sending d L fI fT cc0_scratch9 r1V (base L + 63)
      ∗ Todo d L fO 64 ∗ Sending d L fI fT cc0_scratch8 r0V (base L + 62) ∗ Owned (thr d L) x0V ∗ tPts d fT qT ∗ Owned (thr d L) x1V ∗ iPts d fI q1
      ∗ zero d L cc0_scratch6 ∗ zero d L cc0_scratch5 ∗ Done d L fI fT 62) := by
  unfold Inv Prev Pipe
  rw [if_neg (by omega), if_neg (by omega)]

set_option maxHeartbeats 4000000 in
/-- The task on the vector subcore at `L`: from the list `fI` and the table `fT` it writes its 64 chunks of the output,
    each the table's rows that the list names. -/
theorem tile_body (hF : (K (F := F)).Facts) (hpre : ∀ x, (fI x).toNat < 1000000) (q : PosShare TreeShare)
    (O : CellTallies nD τ sig (HIx 1)) (W : Waits sig (HIx 1)) (hO : ∀ g, O g none = 0) :
    iprop(levAts (K (F := F)).L (K (F := F)).lev ∗ emp
        ∗ (iPts d fI q ∗ tPts d fT q ∗ Todo d L fO 0)
        ∗ scopedBufs (thr d L) ∗ scopedSems0 (thr d L) ∗ owes (thr d L) O W)
      ⊢ wp frame (wpE (defs₀ (F := F)) 𝒱₀ (thr d L) none) Set.univ
          (cc0__embed L iV (Memref.isWhole_whole _) tV (Memref.isWhole_whole _) oV (Memref.isWhole_whole _)
            x0V (Memref.isWhole_whole _) x1V (Memref.isWhole_whole _) r0V (Memref.isWhole_whole _) r1V (Memref.isWhole_whole _)
            cc0_scratch4 cc0_scratch5 cc0_scratch6 cc0_scratch7 cc0_scratch8 cc0_scratch9)
          fun _ => iprop((iPts d fI q ∗ tPts d fT q ∗ Done d L fI fT 64)
            ∗ scopedBufs (thr d L) ∗ scopedSems0 (thr d L)
            ∗ ∃ W', ⌜∀ p ∈ W', p ∈ W ∨ p.2 = none⌝ ∗ owes (thr d L) O W') := by
  have e10 : k0_off1 L 0#32 = ![400 * base L] := (k0_off1_eq L 0).trans (congrArg (fun z => ![z]) (by unfold base; show _ + 400 * 0 = _; omega))
  have e11 : k0_off1 L 400#32 = ![400 * (base L + 1)] := (k0_off1_eq L 1).trans (congrArg (fun z => ![z]) (by unfold base; show _ + 400 * 1 = _; omega))
  simp only [cc0__embed_eq_skeleton]; unfold cc0__embed_skel
  rw [(K (F := F)).scopedBufs_V hF d (cV L) (jV L), SparseCore.Cfg.scopedSems0_V (Val := Elt F) d (cV L) (jV L), ownSems0_V, ownBufs_V]
  simp only [wp_bind]
  iintro ⟨#Hlv, -, ⟨Hi, Ht, Htodo⟩, ⟨Hx0, Hx1, Hr0, Hr1, Hbufs⟩, ⟨Hs4, Hs5, Hs6, Hs7, Hs8, Hs9, Hsems⟩, HO⟩
  ihave #Hmw := (show levAts (K (F := F)).L (K (F := F)).lev ⊢ Transfers.MayWaits (thr d L) (default : HIx 1) O from
    (K (F := F)).mayWaits_none (thr := thr d L) hO) $$ Hlv
  ihave HO := (show owes (thr d L) O W ⊢ (Copies.Owes (thr d L) O W : sProp 𝕄) from by
    unfold Copies.Owes
    iintro H
    iexists W
    iframe H
    ipureintro; exact fun p hp => .inl hp) $$ HO
  ihave ⟨Hi0, Hi1⟩ := (iPts_split d fI q).1 $$ Hi
  iapply (wp_fetchChunk d L fI x0V e10 (show _ = nX by rfl)) $$ [Hi0 Hx0 Hs4]
  · iframe Hi0 Hx0 Hs4
  iintro Hf0
  iapply (wp_fetchChunk d L fI x1V e11 (show _ = nX by rfl)) $$ [Hi1 Hx1 Hs5]
  · iframe Hi1 Hx1 Hs5
  iintro Hf1
  iapply (wp_fetched d L fI x0V (show _ = nX by rfl)) $$ [Hf0 HO]
  · iframe Hmw Hf0 HO
  iintro ⟨Hx0, Hi0, Hs4, HO⟩
  iapply (wp_takeChunk d L fI fT hpre r0V x0V (rows_credit0 _)) $$ [Ht Hr0 Hx0 Hs6]
  · iframe Ht Hr0 Hx0 Hs6
  iintro Htake
  iapply (Scf.wp_for frame (wpE (defs₀ (F := F)) 𝒱₀ (thr d L) none) Set.univ _ _ _ k0_t1_ok _ _
    (fun k _ => Inv d L fI fT fO O W q.left q.right q k) (fun k _ => trip d L fI fT fO hpre O W q.left q.right q k))
  isplitl [Hmw HO Hi0 Hs4 Hs7 Hr1 Hs9 Htodo Htake Hf1 Hs8]
  · iapply (inv_first d L fI fT fO O W q.left q.right q)
    iframe Hmw HO Hi0 Hs4 Hs7 Hr1 Hs9 Htodo Htake Hf1 Hs8
  iintro %_ Hinv
  ihave Hinv := (show Inv d L fI fT fO O W q.left q.right q k0_t1_loop.trips ⊢ _ from
    (Entails.of_eq (congrArg _ trips_eq)).trans (inv_last d L fI fT fO O W q.left q.right q)) $$ Hinv
  icases Hinv with ⟨-, HO, Hi0, Hs4, Hs7, Hsend1, -, Hsend0, Hx0, Ht, Hx1, Hi1, Hs6, Hs5, Hdone⟩
  iapply (wp_sent d L fI fT r0V) $$ [Hsend0 HO]
  · iframe Hmw Hsend0 HO
  iintro ⟨Hc0, Hr0, Hs8, HO⟩
  iapply (wp_sent d L fI fT r1V) $$ [Hsend1 HO]
  · iframe Hmw Hsend1 HO
  iintro ⟨Hc1, Hr1, Hs9, HO⟩
  rw [wp_pure]; imodintro
  rw [done_succ d L fI fT 63, done_succ d L fI fT 62]
  isplitl [Hi0 Hi1 Ht Hc0 Hc1 Hdone]
  · isplitl [Hi0 Hi1]
    · iapply (iPts_split d fI q).2
      iframe Hi0 Hi1
    iframe Ht Hc1 Hc0 Hdone
  isplitl [Hx0 Hx1 Hr0 Hr1 Hbufs]
  · iframe Hx0 Hx1 Hr0 Hr1 Hbufs
  isplitl [Hs4 Hs5 Hs6 Hs7 Hs8 Hs9 Hsems]
  · iframe Hs4 Hs5 Hs6 Hs7 Hs8 Hs9 Hsems
  unfold Copies.Owes
  iexact HO

end Body

end Cert.Proof.KernelIdealRun

end
-- ==== Proof.KernelIdealRun.lean ====
/-
  The run of `KernelIdeal`: what the call hands to the tiles and takes back, the host's operations before and after it, and
  what its arrays hold at the end.
-/
module

public import proofs.«01_k».proof.Proof.KernelIdealTask
public import Idealize.ShloMosaic.Lib.Pipeline.Value

@[expose] public section

noncomputable section

namespace Cert.Proof.KernelIdealRun

open Cert.KernelIdeal Cert.KernelIdeal.Gen
open Cert.Proof.Copies

open Idealize.ShloMosaic
open Idealize.ShloMosaic.ValueIdx (ix1 ix2 eq_ix1 eq_ix2)
open Idealize.ShloMosaic.SparseCore (S V T gatherPayload rows)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.ValueIdx (ix3 eq_ix3)

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S819200 EltTy.i32)
local notation "tV" => (Memref.whole Cert.KernelIdeal.main_v1_scv : Memref Cert.KernelIdeal.sig Kind.scVector Space.hbm Cert.KernelIdeal.S1000000x128 EltTy.f32)
local notation "oV" => (Memref.whole Cert.KernelIdeal.main_v2_scv : Memref Cert.KernelIdeal.sig Kind.scVector Space.hbm Cert.KernelIdeal.S819200x128 EltTy.f32)
local notation "x0V" => (Memref.whole Cert.KernelIdeal.cc0_scratch0 : Memref Cert.KernelIdeal.sig Kind.scVector Space.vmem Cert.KernelIdeal.S400 EltTy.i32)
local notation "x1V" => (Memref.whole Cert.KernelIdeal.cc0_scratch1 : Memref Cert.KernelIdeal.sig Kind.scVector Space.vmem Cert.KernelIdeal.S400 EltTy.i32)
local notation "r0V" => (Memref.whole Cert.KernelIdeal.cc0_scratch2 : Memref Cert.KernelIdeal.sig Kind.scVector Space.vmem Cert.KernelIdeal.S400x128 EltTy.f32)
local notation "r1V" => (Memref.whole Cert.KernelIdeal.cc0_scratch3 : Memref Cert.KernelIdeal.sig Kind.scVector Space.vmem Cert.KernelIdeal.S400x128 EltTy.f32)

/-! ## The tiles' parts of the arrays -/

section Parts

variable (d : Dev nD)

/-- The grid's point of SparseCore `c` and vector subcore `s`. -/
def pt (c : Fin (grid0.bound 0)) (s : Fin (grid0.bound 1)) : grid0.Coords :=
  fun | 0 => c | 1 => s | ⟨_ + 2, h⟩ => absurd h (Nat.not_lt.2 (Nat.le_add_left _ _))

/-- The number of a tile's first chunk. -/
theorem base_pt (c : Fin 2) (s : Fin 16) : base (pt c s) = 128 * s.val + 64 * c.val := rfl

/-- The tile's share of the list and of the table: the whole dealt to the SparseCores, and each part to the tiles. -/
def tq (c : Fin 2) (s : Fin 16) : PosShare TreeShare :=
  Transfers.dealOf (Transfers.dealOf fullShare (Finset.univ : Finset (Fin 2)) c) (Finset.univ : Finset (Fin 16)) s

/-- The output's elements that the tile writes. -/
def tileSet (c : Fin 2) (s : Fin 16) : Finset S819200x128.Idx := (Finset.range 64).biUnion fun g => chunkSet (base (pt c s) + g)

/-- An element is in a tile's part of the output when its chunk is one of the tile's 64. -/
theorem mem_tileSet {c : Fin 2} {s : Fin 16} {x : S819200x128.Idx} :
    x ∈ tileSet c s ↔ 128 * s.val + 64 * c.val ≤ (x 0).val / 400 ∧ (x 0).val / 400 < 128 * s.val + 64 * c.val + 64 := by
  unfold tileSet
  simp only [Finset.mem_biUnion, Finset.mem_range, mem_chunkSet, base_pt]
  constructor
  · rintro ⟨g, hg, e⟩; omega
  · rintro ⟨h1, h2⟩; exact ⟨(x 0).val / 400 - (128 * s.val + 64 * c.val), by omega, by omega⟩

/-- The output's elements that a SparseCore's tiles write. -/
def coreSet (c : Fin 2) : Finset S819200x128.Idx := (Finset.univ : Finset (Fin 16)).biUnion fun s => tileSet c s

/-- The parts of two different tiles have no element in common. -/
theorem tileSet_disjoint {c c' : Fin 2} {s s' : Fin 16} (h : c ≠ c' ∨ s ≠ s') : Disjoint (tileSet c s) (tileSet c' s') := by
  refine Finset.disjoint_left.mpr fun x hx hx' => ?_
  rw [mem_tileSet] at hx hx'
  have := c.isLt; have := c'.isLt
  rcases h with h | h
  · exact h (Fin.ext (by omega))
  · exact h (Fin.ext (by omega))

/-- The two SparseCores' parts make up the output. -/
theorem coreSet_cover : (Finset.univ : Finset (Fin 2)).biUnion coreSet = (Finset.univ : Finset S819200x128.Idx) := by
  refine Finset.eq_univ_iff_forall.mpr fun x => ?_
  have hx : (x 0).val < 819200 := (x 0).isLt
  have hc : (x 0).val / 400 / 64 % 2 < 2 := by omega
  have hs : (x 0).val / 400 / 128 < 16 := by omega
  refine Finset.mem_biUnion.mpr ⟨⟨_, hc⟩, Finset.mem_univ _, Finset.mem_biUnion.mpr ⟨⟨_, hs⟩, Finset.mem_univ _, mem_tileSet.mpr ?_⟩⟩
  show 128 * ((x 0).val / 400 / 128) + 64 * ((x 0).val / 400 / 64 % 2) ≤ _ ∧ _ < 128 * ((x 0).val / 400 / 128) + 64 * ((x 0).val / 400 / 64 % 2) + 64
  omega

/-- The whole output, chunk by chunk of every tile. -/
theorem out_parts (f : S819200x128.Idx → Elt F .f32) :
    (oLoc d ↦{fullShare} f : sProp 𝕄)
      = bigSep Finset.univ fun c : Fin 2 => bigSep Finset.univ fun s : Fin 16 => bigSep (Finset.range 64) fun g => chunkPts d f (base (pt c s) + g) := by
  have h1 : ∀ c s, (bigSep (Finset.range 64) fun g => chunkPts d f (base (pt c s) + g) : sProp 𝕄) = (oLoc d ↦[tileSet c s]{fullShare} f) := fun c s =>
    (pointsTo_biUnion (Finset.range 64) (ℓ := oLoc d) (fun g => chunkSet (base (pt c s) + g)) (fun g _ g' _ h => by
      refine Finset.disjoint_left.mpr fun x hx hx' => h ?_
      rw [mem_chunkSet] at hx hx'
      omega)).symm
  have h2 : ∀ c, (bigSep Finset.univ fun s : Fin 16 => (oLoc d ↦[tileSet c s]{fullShare} f : sProp 𝕄)) = (oLoc d ↦[coreSet c]{fullShare} f) := fun c =>
    (pointsTo_biUnion Finset.univ (ℓ := oLoc d) (fun s => tileSet c s) (fun s _ s' _ h => tileSet_disjoint (.inr h))).symm
  have h3 : (bigSep Finset.univ fun c : Fin 2 => (oLoc d ↦[coreSet c]{fullShare} f : sProp 𝕄))
      = (oLoc d ↦[(Finset.univ : Finset (Fin 2)).biUnion coreSet]{fullShare} f) :=
    (pointsTo_biUnion Finset.univ (ℓ := oLoc d) coreSet (fun c _ c' _ h => by
      refine Finset.disjoint_left.mpr fun x hx hx' => ?_
      obtain ⟨s, -, hs⟩ := Finset.mem_biUnion.mp hx
      obtain ⟨s', -, hs'⟩ := Finset.mem_biUnion.mp hx'
      exact Finset.disjoint_left.mp (tileSet_disjoint (.inl h)) hs hs')).symm
  rw [coreSet_cover] at h3
  refine h3.symm.trans (bigSep_congr fun c _ => (h2 c).symm.trans (bigSep_congr fun s _ => (h1 c s).symm))

/-- The whole list, a share of it to every tile. -/
theorem idx_parts (f : S819200.Idx → Elt F .i32) :
    (iLoc d ↦{fullShare} f : sProp 𝕄) = bigSep Finset.univ fun c : Fin 2 => bigSep Finset.univ fun s : Fin 16 => iPts d f (tq c s) :=
  (Transfers.pointsTo_deal Finset.univ Finset.univ_nonempty fullShare).trans
    (bigSep_congr fun _ _ => Transfers.pointsTo_deal Finset.univ Finset.univ_nonempty _)

/-- The whole table, a share of it to every tile. -/
theorem tab_parts (f : S1000000x128.Idx → Elt F .f32) :
    (tLoc d ↦{fullShare} f : sProp 𝕄) = bigSep Finset.univ fun c : Fin 2 => bigSep Finset.univ fun s : Fin 16 => tPts d f (tq c s) :=
  (Transfers.pointsTo_deal Finset.univ Finset.univ_nonempty fullShare).trans
    (bigSep_congr fun _ _ => Transfers.pointsTo_deal Finset.univ Finset.univ_nonempty _)

end Parts

/-! ## The host's operations -/

section Host

variable [FloatOps F]
variable (m : (ℓ : Loc nD τ sig) → Buf (Elt F) ℓ) (ρ : Dev nD → PrngReg)

/-- The buffer of the indices. -/
abbrev a0' : DevRef τ sig := Proc.devRef .tc (main_arg0 : Ref sig .tc)
/-- The buffer of the table. -/
abbrev a1' : DevRef τ sig := Proc.devRef .tc (main_arg1 : Ref sig .tc)
/-- The buffer of the flat list of indices. -/
abbrev v0' : DevRef τ sig := Proc.devRef .tc (main_v0 : Ref sig .tc)
/-- The buffer of the doubled table. -/
abbrev v1' : DevRef τ sig := Proc.devRef .tc (main_v1 : Ref sig .tc)
/-- The buffer of the SparseCore call's output. -/
abbrev v2' : DevRef τ sig := Proc.devRef .tc (main_v2 : Ref sig .tc)
/-- The buffer of the output's first 64 columns. -/
abbrev v3' : DevRef τ sig := Proc.devRef .tc (main_v3 : Ref sig .tc)
/-- The buffer of the result. -/
abbrev v4' : DevRef τ sig := Proc.devRef .tc (main_v4 : Ref sig .tc)

/-- The indices flattened. -/
abbrev opFlat : HloOp τ sig (Elt F) := StableHlo.reshape main_arg0 main_v0 (rfl : (.i32 : EltTy) = .i32) shapeCasts_S4096x200_S819200
/-- The table beside itself. -/
abbrev opWide : HloOp τ sig (Elt F) := StableHlo.binary main_arg1 main_arg1 main_v1
  ((fun a b => concatenate S1000000x128 1 [⟨S1000000x64, a⟩, ⟨S1000000x64, b⟩] concatenates_S1000000x64_S1000000x64_S1000000x128_d1) :
    (⟨S1000000x64, .f32⟩ : BufTy).Contents (Elt F) → (⟨S1000000x64, .f32⟩ : BufTy).Contents (Elt F) → (⟨S1000000x128, .f32⟩ : BufTy).Contents (Elt F))
/-- The output's first half of columns. -/
abbrev opCut : HloOp τ sig (Elt F) := StableHlo.unary main_v2 main_v3
  ((extractStridedSlice S819200x64 ![0, 0] · slices_S819200x128_S819200x64_0_0) :
    (⟨S819200x128, .f32⟩ : BufTy).Contents (Elt F) → (⟨S819200x64, .f32⟩ : BufTy).Contents (Elt F))
/-- The output in the indices' shape. -/
abbrev opFold : HloOp τ sig (Elt F) := StableHlo.reshape main_v3 main_v4 (rfl : (.f32 : EltTy) = .f32) shapeCasts_S819200x64_S4096x200x64

/-- The arrays at launch. -/
def A0 (d : Dev nD) : Valuation τ sig (Elt F) := fun b => m (d, b)
/-- The contents after the reshape of the indices. -/
def A1 (d : Dev nD) : Valuation τ sig (Elt F) := (opFlat (F := F)).result (A0 m d)
/-- The contents after the doubling of the table: what the SparseCore call meets. -/
def A2 (d : Dev nD) : Valuation τ sig (Elt F) := (opWide (F := F)).result (A1 m d)

/-- The list that the call meets. -/
def fI (d : Dev nD) : S819200.Idx → Elt F .i32 := A2 m d v0'
/-- The doubled table that the SparseCore call meets. -/
def fT (d : Dev nD) : S1000000x128.Idx → Elt F .f32 := A2 m d v1'
/-- What its output holds before it. -/
def fO (d : Dev nD) : S819200x128.Idx → Elt F .f32 := A2 m d v2'

/-- The arrays when the call has ended. -/
def A3 (d : Dev nD) : Valuation τ sig (Elt F) := Function.update (A2 m d) v2' (G (fI m d) (fT m d))
/-- The contents after the cut to 64 columns. -/
def A4 (d : Dev nD) : Valuation τ sig (Elt F) := (opCut (F := F)).result (A3 m d)
/-- The contents at the end. -/
def A5 (d : Dev nD) : Valuation τ sig (Elt F) := (opFold (F := F)).result (A4 m d)

/-- What the program computes: the table's rows that the indices name, in the indices' shape. -/
def look (a : S4096x200.Idx → Elt F .i32) (b : S1000000x64.Idx → Elt F .f32) : S4096x200x64.Idx → Elt F .f32 := fun x =>
  b (ix2 (⟨(a (ix2 (x 0) (x 1))).toNat % 1000000, Nat.mod_lt _ (by decide)⟩ : Fin 1000000) (x 2))

/-- The place of the indices. -/
abbrev a0Loc (d : Dev nD) : Loc nD τ sig := (SparseCore.T d).loc main_arg0
/-- The place of the table. -/
abbrev a1Loc (d : Dev nD) : Loc nD τ sig := (SparseCore.T d).loc main_arg1
/-- The place of the result. -/
abbrev rLoc (d : Dev nD) : Loc nD τ sig := (SparseCore.T d).loc main_v4

/-- The list is the indices, row after row. -/
theorem fI_eq (d : Dev nD) : fI m d = shapeCast S819200 (m (a0Loc d) : S4096x200.Idx → Elt F .i32) shapeCasts_S4096x200_S819200 := by
  unfold fI A2
  rw [(opWide (F := F)).result_of_not_mem _ (show v0' ∉ ({v1'} : Finset (DevRef τ sig)) by decide)]
  exact (StableHlo.reshape_result _ _ _ _ _ _ _).trans rfl

/-- The doubled table is the table beside itself. -/
theorem fT_eq (d : Dev nD) : fT m d = concatenate S1000000x128 1 [⟨S1000000x64, (m (a1Loc d) : S1000000x64.Idx → Elt F .f32)⟩, ⟨S1000000x64, m (a1Loc d)⟩]
    concatenates_S1000000x64_S1000000x64_S1000000x128_d1 := by
  have h : A1 m d a1' = m (a1Loc d) := (opFlat (F := F)).result_of_not_mem _ (show a1' ∉ ({v0'} : Finset (DevRef τ sig)) by decide)
  unfold fT A2
  refine (StableHlo.binary_result _ _ _ _ _ _ _ _).trans ?_
  rw [h]

/-- The first two operations leave the indices alone. -/
theorem A2_a0 (d : Dev nD) : A2 m d a0' = m (a0Loc d) :=
  ((opWide (F := F)).result_of_not_mem _ (show a0' ∉ ({v1'} : Finset (DevRef τ sig)) by decide)).trans
    ((opFlat (F := F)).result_of_not_mem _ (show a0' ∉ ({v0'} : Finset (DevRef τ sig)) by decide))
/-- The first two operations leave the table alone. -/
theorem A2_a1 (d : Dev nD) : A2 m d a1' = m (a1Loc d) :=
  ((opWide (F := F)).result_of_not_mem _ (show a1' ∉ ({v1'} : Finset (DevRef τ sig)) by decide)).trans
    ((opFlat (F := F)).result_of_not_mem _ (show a1' ∉ ({v0'} : Finset (DevRef τ sig)) by decide))
/-- At the end the indices are as they were. -/
theorem A5_a0 (d : Dev nD) : A5 m d a0' = m (a0Loc d) :=
  ((opFold (F := F)).result_of_not_mem _ (show a0' ∉ ({v4'} : Finset (DevRef τ sig)) by decide)).trans
    (((opCut (F := F)).result_of_not_mem _ (show a0' ∉ ({v3'} : Finset (DevRef τ sig)) by decide)).trans
      ((Function.update_of_ne (show a0' ≠ v2' by decide) _ _).trans (A2_a0 m d)))
/-- At the end the table is as it was. -/
theorem A5_a1 (d : Dev nD) : A5 m d a1' = m (a1Loc d) :=
  ((opFold (F := F)).result_of_not_mem _ (show a1' ∉ ({v4'} : Finset (DevRef τ sig)) by decide)).trans
    (((opCut (F := F)).result_of_not_mem _ (show a1' ∉ ({v3'} : Finset (DevRef τ sig)) by decide)).trans
      ((Function.update_of_ne (show a1' ≠ v2' by decide) _ _).trans (A2_a1 m d)))

/-- The result is the lookup. -/
theorem A5_v4 (d : Dev nD) : A5 m d v4' = look (F := F) (m (a0Loc d)) (m (a1Loc d)) := by
  have e1 : A5 m d v4' = shapeCast S4096x200x64 (A4 m d v3' : S819200x64.Idx → Elt F .f32) shapeCasts_S819200x64_S4096x200x64 :=
    (StableHlo.reshape_result _ _ _ _ _ _ _).trans rfl
  have e2 : A4 m d v3' = extractStridedSlice S819200x64 ![0, 0] (G (fI m d) (fT m d)) slices_S819200x128_S819200x64_0_0 := by
    refine (StableHlo.unary_result _ _ _ _ _ _).trans ?_
    rw [show A3 m d v2' = G (fI m d) (fT m d) from Function.update_self _ _ _]
  rw [e1, e2]
  funext x
  have h0 : (x 0).val < 4096 := (x 0).isLt
  have h1 : (x 1).val < 200 := (x 1).isLt
  have h2 : (x 2).val < 64 := (x 2).isLt
  have hp : 200 * (x 0).val + (x 1).val < 819200 := by omega
  have h2' : (x 2).val < 128 := by omega
  refine (shapeCast_apply _ _ x (ix2 (⟨200 * (x 0).val + (x 1).val, hp⟩ : Fin 819200) (x 2)) ?_).trans ?_
  · rw [Shape.rowMajor_val_two, Shape.rowMajor_val_three]
    show (200 * (x 0).val + (x 1).val) * 64 + (x 2).val = _
    show _ = ((x 0).val * 200 + (x 1).val) * 64 + (x 2).val
    omega
  refine (extractStridedSlice_apply _ _ _ _ (ix2 (⟨200 * (x 0).val + (x 1).val, hp⟩ : Fin 819200) (⟨(x 2).val, h2'⟩ : Fin 128))
    (fun a => match a with
      | ⟨0, _⟩ => by show _ = 0 + _; exact (Nat.zero_add _).symm
      | ⟨1, _⟩ => by show _ = 0 + _; exact (Nat.zero_add _).symm)).trans ?_
  unfold G rowAt look
  show fT m d (ix2 (⟨(fI m d (ix1 (⟨200 * (x 0).val + (x 1).val, hp⟩ : Fin 819200))).toNat % 1000000, _⟩ : Fin 1000000) (⟨(x 2).val, h2'⟩ : Fin 128)) = _
  have e3 : fI m d (ix1 (⟨200 * (x 0).val + (x 1).val, hp⟩ : Fin 819200)) = (m (a0Loc d) : S4096x200.Idx → Elt F .i32) (ix2 (x 0) (x 1)) := by
    rw [fI_eq]
    refine shapeCast_apply (s := S4096x200) (t := S819200) _ _ _ _ ?_
    refine (Shape.rowMajor_val_two (d := ![4096, 200]) _).trans (Eq.trans ?_ (Shape.rowMajor_val_one (d := ![819200]) _).symm)
    show (x 0).val * 200 + (x 1).val = 200 * (x 0).val + (x 1).val
    omega
  rw [fT_eq]
  refine (concatenate_pair_apply_left (t := S1000000x128) (s₁ := S1000000x64) (s₂ := S1000000x64) 1 _ _ _ _ rfl (ix2 (⟨(fI m d (ix1 (⟨200 * (x 0).val + (x 1).val, hp⟩ : Fin 819200))).toNat % 1000000, Nat.mod_lt _ (by decide)⟩ : Fin 1000000) (x 2))
    (fun a => match a with
      | ⟨0, _⟩ => rfl
      | ⟨1, _⟩ => rfl)).trans ?_
  rw [e3]

end Host

/-! ## What the call hands out and takes back -/

section Launch

variable [FloatOps F]
variable (m : (ℓ : Loc nD τ sig) → Buf (Elt F) ℓ) (ρ : Dev nD → PrngReg)

/-- What the proof asks of the launch memory: every index names a row of the table. -/
def PreOK : Prop := ∀ (d : Dev nD) (j : S4096x200.Idx), ((m (a0Loc d) : S4096x200.Idx → Elt F .i32) j).toNat < 1000000

/-- A tile's part: its shares of the list and of the table, and its chunks of the output at contents `f`. -/
def part (d : Dev nD) (f : S819200x128.Idx → Elt F .f32) (c : Fin 2) (s : Fin 16) : sProp 𝕄 :=
  iprop(iPts d (fI m d) (tq c s) ∗ tPts d (fT m d) (tq c s) ∗ bigSep (Finset.range 64) fun g => chunkPts d f (base (pt c s) + g))

/-- A SparseCore's part: its tiles' parts. -/
def corePart (d : Dev nD) (f : S819200x128.Idx → Elt F .f32) (c : Fin 2) : sProp 𝕄 := bigSep Finset.univ fun s : Fin 16 => part m d f c s

/-- A tile's part can be handed over. -/
instance part_storable (d : Dev nD) (f : S819200x128.Idx → Elt F .f32) (c : Fin 2) (s : Fin 16) :
    BI.Storable (upEmb : UEmb _ 𝕄) (part m d f c s) := by
  unfold part iPts tPts chunkPts
  infer_instance

/-- A SparseCore's part can be handed over. -/
instance corePart_storable (d : Dev nD) (f : S819200x128.Idx → Elt F .f32) (c : Fin 2) : BI.Storable (upEmb : UEmb _ 𝕄) (corePart m d f c) := by
  unfold corePart
  infer_instance

attribute [local irreducible] part corePart

/-- All parts together are the three arrays. -/
theorem parts_eq (d : Dev nD) (f : S819200x128.Idx → Elt F .f32) :
    (bigSep Finset.univ fun c : Fin 2 => corePart m d f c)
      = iprop((iLoc d ↦{fullShare} fI m d) ∗ (tLoc d ↦{fullShare} fT m d) ∗ oLoc d ↦{fullShare} f) := by
  unfold corePart part
  rw [idx_parts, tab_parts, out_parts]
  simp only [bigSep_sep']

/-- The call takes the list, the table and the output, a part to every tile, and brings them back with the looked-up
    rows in the output. -/
def P : (K (F := F)).Pay (nD := nD) (Val := Elt F) (Name := ℕ) (U := UU) where
  st := fun q d c => match q with | 0 => corePart m d (fO m d) (Fin.cast nCore_zero c)
  dn := fun q d c => match q with | 0 => corePart m d (G (fI m d) (fT m d)) (Fin.cast nCore_zero c)
  go := fun q d c i => match q with | 0 => part m d (fO m d) (Fin.cast nCore_zero c) (Fin.cast nSub_zero i)
  td := fun q d c i => match q with | 0 => part m d (G (fI m d) (fT m d)) (Fin.cast nCore_zero c) (Fin.cast nSub_zero i)
  x := fun _ _ => iprop(emp)

/-- What the handshakes carry can be handed over. -/
instance P_storable : (P (F := F) m).IsStorable where
  st q d c := match q with | 0 => corePart_storable m d (fO m d) (Fin.cast nCore_zero c)
  dn q d c := match q with | 0 => corePart_storable m d (G (fI m d) (fT m d)) (Fin.cast nCore_zero c)
  go q d c i := match q with | 0 => part_storable m d (fO m d) (Fin.cast nCore_zero c) (Fin.cast nSub_zero i)
  td q d c i := match q with | 0 => part_storable m d (G (fI m d) (fT m d)) (Fin.cast nCore_zero c) (Fin.cast nSub_zero i)

/-! ## Each tile's obligation -/

/-- Every entry of the list names a row of the table. -/
theorem fI_lt (h : PreOK m) (d : Dev nD) (x : S819200.Idx) : (fI m d x).toNat < 1000000 := by
  rw [fI_eq]
  exact h d _

/-- The body of the call on a tile is the kernel at the tile's coordinates. -/
theorem defs₀_vector (c : Fin τ.nSC) (s : Fin τ.nSub) :
    defs₀ (F := F) (.scVector c s) 0 ()
      = SparseCore.onTile hcore0 hsub0 (fun c s => cc0__embed (pt c s) iV (Memref.isWhole_whole _) tV (Memref.isWhole_whole _) oV (Memref.isWhole_whole _)
          x0V (Memref.isWhole_whole _) x1V (Memref.isWhole_whole _) r0V (Memref.isWhole_whole _) r1V (Memref.isWhole_whole _)
          cc0_scratch4 cc0_scratch5 cc0_scratch6 cc0_scratch7 cc0_scratch8 cc0_scratch9) ⟨⟩ c s := rfl

/-- A tile that has done nothing yet has its 64 chunks to do. -/
theorem todo_zero (d : Dev nD) (L : grid0.Coords) (f : S819200x128.Idx → Elt F .f32) :
    (bigSep (Finset.range 64) fun g => chunkPts d f (base L + g) : sProp 𝕄) = Todo d L f 0 := by
  unfold Todo
  rw [Finset.range_eq_Ico]

set_option maxRecDepth 16384 in
/-- Each tile turns its part at the output's old contents into its part at the looked-up rows. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hgo : (P m).go 0 d c i = iprop(iPts d (fI m d) (tq (Fin.cast nCore_zero c) (Fin.cast nSub_zero i))
      ∗ tPts d (fT m d) (tq (Fin.cast nCore_zero c) (Fin.cast nSub_zero i)) ∗ Todo d (pt ⟨_, hci.1⟩ ⟨_, hci.2⟩) (fO m d) 0) := by
    show part m d (fO m d) _ _ = _
    rw [← todo_zero]; unfold part; rfl
  have htd : (P m).td 0 d c i = iprop(iPts d (fI m d) (tq (Fin.cast nCore_zero c) (Fin.cast nSub_zero i))
      ∗ tPts d (fT m d) (tq (Fin.cast nCore_zero c) (Fin.cast nSub_zero i)) ∗ Done d (pt ⟨_, hci.1⟩ ⟨_, hci.2⟩) (fI m d) (fT m d) 64) := by
    show part m d (G (fI m d) (fT m d)) _ _ = _
    unfold part Done; rfl
  rw [hgo, htd]
  refine (tile_body d (pt ⟨_, hci.1⟩ ⟨_, hci.2⟩) (fI m d) (fT m d) (fO m d) hF (fI_lt m hpre d) _ O W hO).trans (wp_mono frame _ _ fun _ => ?_)
  iintro ⟨HA, HB, HC, %W', %hW', HO⟩
  iframe HA HB HC
  iexists W'
  iframe HO
  ipureintro; exact fun p hp => (hW' p hp).imp_right Or.inl

/-- A SparseCore's part is its 16 tiles' parts, before the call and after it. -/
theorem vecSplit : (K (F := F)).VecSplit' (P m) 0 := by
  intro d c
  show corePart m d (fO m d) (Fin.cast nCore_zero c) ⊢ |={Set.univ}=> iprop(
      (bigSep Finset.univ fun i : Fin 16 => part m d (fO m d) (Fin.cast nCore_zero c) i)
      ∗ ((bigSep Finset.univ fun i : Fin 16 => part m d (G (fI m d) (fT m d)) (Fin.cast nCore_zero c) i)
          -∗ corePart m d (G (fI m d) (fT m d)) (Fin.cast nCore_zero c)))
  unfold corePart
  iintro H; imodintro
  iframe H
  iintro H; iexact H

/-! ## The launch element of the ghost state -/

/-- The ghost state at the launch: the handshakes' cells and tokens, and the counters' unit. -/
def u₀ : UU := (initOf (K (F := F)).hsCells (K (F := F)).hsToks, 1)

/-- The ghost state at the launch gives the handshakes' cells and tokens. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  have he : ∀ {I : Type} (s : Finset I), (bigSep s fun _ => iprop(emp)) = (iprop(emp) : sProp 𝕄) := fun s => bigSep_emp_const s
  isplitr; · rw [he]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), he]
  iempintro

/-! ## The host's program -/

/-- The host's arrays. -/
abbrev S7 : Finset (DevRef τ sig) := {a0', a1', v0', v1', v2', v3', v4'}

/-- The seven arrays of the host program, one by one. -/
theorem held_S7 (d : Dev nD) (W : Valuation τ sig (Elt F)) :
    (held (T d) S7 W : sProp 𝕄)
      = iprop((a0Loc d ↦{fullShare} W a0') ∗ (a1Loc d ↦{fullShare} W a1') ∗ (iLoc d ↦{fullShare} W v0') ∗ (tLoc d ↦{fullShare} W v1')
          ∗ (oLoc d ↦{fullShare} W v2') ∗ ((SparseCore.T d).loc main_v3 ↦{fullShare} W v3') ∗ rLoc d ↦{fullShare} W v4') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch's buffers are those seven arrays, at the launch's contents. -/
theorem unscoped_held (d : Dev nD) : (unscopedBufs d (fun b => m ((SparseCore.T d).loc b)) : sProp 𝕄) = held (T d) S7 (A0 m d) := by
  rw [held_S7]
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The arrays when the call starts. -/
theorem held_A2 (d : Dev nD) :
    (held (T d) S7 ((opWide (F := F)).result ((opFlat (F := F)).result (A0 m d))) : sProp 𝕄)
      = iprop((a0Loc d ↦{fullShare} A2 m d a0') ∗ (a1Loc d ↦{fullShare} A2 m d a1') ∗ (iLoc d ↦{fullShare} fI m d) ∗ (tLoc d ↦{fullShare} fT m d)
          ∗ (oLoc d ↦{fullShare} fO m d) ∗ ((SparseCore.T d).loc main_v3 ↦{fullShare} A2 m d v3') ∗ rLoc d ↦{fullShare} A2 m d v4') :=
  held_S7 d (A2 m d)

/-- The arrays when the call has ended. -/
theorem held_A3 (d : Dev nD) :
    (held (T d) S7 (A3 m d) : sProp 𝕄)
      = iprop((a0Loc d ↦{fullShare} A2 m d a0') ∗ (a1Loc d ↦{fullShare} A2 m d a1') ∗ (iLoc d ↦{fullShare} fI m d) ∗ (tLoc d ↦{fullShare} fT m d)
          ∗ (oLoc d ↦{fullShare} G (fI m d) (fT m d)) ∗ ((SparseCore.T d).loc main_v3 ↦{fullShare} A2 m d v3') ∗ rLoc d ↦{fullShare} A2 m d v4') := by
  rw [held_S7]
  unfold A3
  rw [Function.update_of_ne (show a0' ≠ v2' by decide), Function.update_of_ne (show a1' ≠ v2' by decide), Function.update_of_ne (show v0' ≠ v2' by decide),
    Function.update_of_ne (show v1' ≠ v2' by decide), Function.update_self, Function.update_of_ne (show v3' ≠ v2' by decide),
    Function.update_of_ne (show v4' ≠ v2' by decide)]
  rfl

/-- What the program leaves: its arguments as they were, and the lookup in the result. -/
def FIN (d : Dev nD) : sProp 𝕄 :=
  iprop((a0Loc d ↦{fullShare} m (a0Loc d)) ∗ (a1Loc d ↦{fullShare} m (a1Loc d)) ∗ rLoc d ↦{fullShare} look (F := F) (m (a0Loc d)) (m (a1Loc d)))

/-- The seven arrays at the end hold what the claim asks for. -/
theorem held_A5 (d : Dev nD) : (held (T d) S7 ((opFold (F := F)).result ((opCut (F := F)).result (A3 m d))) : sProp 𝕄) ⊢ FIN m d := by
  show held (T d) S7 (A5 m d) ⊢ _
  rw [held_S7, A5_a0, A5_a1, A5_v4]
  unfold FIN
  iintro ⟨H0, H1, -, -, -, -, H4⟩
  iframe H0 H1 H4

/-- The reshape of the indices touches only the seven arrays. -/
theorem hFlat : (opFlat (F := F)).bufs ⊆ S7 := show ({a0', v0'} : Finset (DevRef τ sig)) ⊆ S7 by decide
/-- The doubling of the table touches only the seven arrays. -/
theorem hWide : (opWide (F := F)).bufs ⊆ S7 := show ({a1', a1', v1'} : Finset (DevRef τ sig)) ⊆ S7 by decide
/-- The cut touches only the seven arrays. -/
theorem hCut : (opCut (F := F)).bufs ⊆ S7 := show ({v2', v3'} : Finset (DevRef τ sig)) ⊆ S7 by decide
/-- The last reshape touches only the seven arrays. -/
theorem hFold : (opFold (F := F)).bufs ⊆ S7 := show ({v3', v4'} : Finset (DevRef τ sig)) ⊆ S7 by decide

/-- What the call is given: the two SparseCores' parts at the output's old contents. -/
theorem st0_eq (d : Dev nD) : (bigSep Finset.univ fun c : Fin ((K (F := F)).nCore 0) => (P m).st 0 d c)
    = iprop((iLoc d ↦{fullShare} fI m d) ∗ (tLoc d ↦{fullShare} fT m d) ∗ oLoc d ↦{fullShare} fO m d) := parts_eq m d (fO m d)
/-- What the call gives back: the two SparseCores' parts at the looked-up rows. -/
theorem dn0_eq (d : Dev nD) : (bigSep Finset.univ fun c : Fin ((K (F := F)).nCore 0) => (P m).dn 0 d c)
    = iprop((iLoc d ↦{fullShare} fI m d) ∗ (tLoc d ↦{fullShare} fT m d) ∗ oLoc d ↦{fullShare} G (fI m d) (fT m d)) := parts_eq m d (G (fI m d) (fT m d))

/-- The host's program on device `d`: two operations, the call, two operations. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S7) hFlat (V := A0 m d)) $$ [Hb Hheld]
  · isplitl [Hb] <;> iassumption
  iintro ⟨Hb, Hheld⟩
  rw [wp_ret]; imodintro
  iapply (wp_hlo_within 𝒱 (SparseCore.T d) none Set.univ (op := opWide) (S := S7) hWide (V := (opFlat (F := F)).result (A0 m d))) $$ [Hb Hheld]
  · isplitl [Hb] <;> iassumption
  iintro ⟨Hb, Hheld⟩
  rw [wp_ret]; imodintro
  ihave Hh := (Entails.of_eq (held_A2 m d)) $$ Hheld
  icases Hh with ⟨H0, H1, Hi, Ht, Ho, H3, H4⟩
  iapply ((K (F := F)).wp_run (D (F := F)) 𝒱 (EH := EH) (P := P m) κ d 0) $$ [Hst Hi Ht Ho Hb Hts H0 H1 H3 H4]
  isplitr; · iexact Hctx
  isplitl [Hst]; · iexact Hst
  isplitl [Hi Ht Ho]
  · rw [st0_eq]
    iframe Hi Ht Ho
  iintro ⟨Hst, Hdn⟩
  ihave Hdn' := (Entails.of_eq (dn0_eq m d)) $$ Hdn
  icases Hdn' with ⟨Hi, Ht, Ho⟩
  iapply (wp_hlo_within 𝒱 (SparseCore.T d) none Set.univ (op := opCut) (S := S7) hCut (V := A3 m d)) $$ [Hb Hi Ht Ho H0 H1 H3 H4]
  · isplitl [Hb]; · iexact Hb
    rw [held_A3]
    iframe Hi Ht Ho H0 H1 H3 H4
  iintro ⟨Hb, Hheld⟩
  rw [wp_ret]; imodintro
  iapply (wp_hlo_within 𝒱 (SparseCore.T d) none Set.univ (op := opFold) (S := S7) hFold (V := (opCut (F := F)).result (A3 m d))) $$ [Hb Hheld]
  · isplitl [Hb] <;> iassumption
  iintro ⟨Hb, Hheld⟩
  rw [wp_ret]; imodintro; imodintro
  isplitl [Hst]; · iexact Hst
  isplitl [Hheld]
  · iapply (held_A5 m d); iexact Hheld
  isplitl [Hb] <;> iassumption

/-! ## The run -/

/-- What the claims read of device `d`'s arrays at the end. -/
def fq (d : Dev nD) (s' : Phys nD τ sig (Elt F)) : Prop :=
  s'.mem.mem (rLoc d) = look (F := F) (m (a0Loc d)) (m (a1Loc d)) ∧ s'.mem.mem (a0Loc d) = m (a0Loc d) ∧ s'.mem.mem (a1Loc d) = m (a1Loc d)

set_option maxRecDepth 16384 in
/-- From what the host program ends with, the contents of the result and of the arguments can be read. -/
theorem hfin (d : Dev nD) (s' : Phys nD τ sig (Elt F)) : iprop(FIN m d ∗ SI s') ⊢ (⌜fq m d s'⌝ : sProp 𝕄) := by
  unfold FIN
  iintro ⟨⟨H0, H1, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := rLoc d) (I := Finset.univ) (q := fullShare) (f := look (F := F) (m (a0Loc d)) (m (a1Loc d)))) $$ [HSI H4]
  · isplitl [HSI] <;> iassumption
  icases H with %h4
  ipureintro
  exact ⟨funext fun i => h4 i (Finset.mem_univ i), funext fun i => h0 i (Finset.mem_univ i), funext fun i => h1 i (Finset.mem_univ i)⟩

/-- How the program ends: the lookup in its result, its arguments as they were, every semaphore at zero. -/
def QC : PUnit × MemSt nD τ sig (Elt F) → Prop := fun r =>
  (∀ c : Dev nD, r.2.mem (rLoc c) = look (F := F) (m (a0Loc c)) (m (a1Loc c)) ∧ r.2.mem (a0Loc c) = m (a0Loc c) ∧ r.2.mem (a1Loc c) = m (a1Loc c))
    ∧ r.2.sem = fun _ => 0

/-- From a launch memory whose indices all name rows of the table, the program runs to the end, leaves the lookup in its
    result and its arguments as they were, and every semaphore at zero. -/
theorem run_main [∀ e, Nonempty (Elt F e)] (hpre : PreOK m) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Proof.KernelIdealRun

end
-- ==== Proof.ReferenceRun.lean ====
/-
  The run of the reference, and the value that it computes: the table's rows that the indices name, when they all name
  one.
-/
module

public import proofs.«01_k».proof.Defs
public import proofs.«01_k».proof.Proof.Pre
public import proofs.«01_k».proof.Proof.Gen.ReferenceIdeal
public import Idealize.ShloMosaic.Lib.Claim
public import Idealize.ShloMosaic.Lib.ValueIdxCore
public import Idealize.ShloMosaic.Lib.Pipeline.Value

@[expose] public section

noncomputable section

namespace Cert.Proof.ReferenceRun

open Idealize.ShloMosaic Idealize.SL.Sem
open Idealize.ShloMosaic.ValueIdx (ix1 ix2 ix3 eq_ix1 eq_ix2 eq_ix3)
open Cert.ReferenceIdeal Cert.ReferenceIdeal.Gen

/-! ## Words -/

/-- A word below 1000000 is not negative, lies between 0 and 999999, and is the number that it reads as signed. -/
theorem word_facts (v : BitVec 32) (h : v.toNat < 1000000) :
    IntOp.cmpi .slt v 0#32 = 0#1 ∧ IntOp.andi (IntOp.cmpi .sge v 0#32) (IntOp.cmpi .sle v 999999#32) = 1#1 ∧ v.toInt.toNat = v.toNat := by
  have hi : v.toInt = v.toNat := by rw [BitVec.toInt_eq_toNat_cond]; split <;> omega
  have hone : ∀ p : Bool, (BitVec.ofBool p = 1#1) ↔ p = true := by decide
  have hzero : ∀ p : Bool, (BitVec.ofBool p = 0#1) ↔ p = false := by decide
  refine ⟨?_, ?_, by rw [hi]; rfl⟩
  · show BitVec.ofBool (v.slt 0#32) = 0#1
    rw [hzero, BitVec.slt_eq_decide, hi]
    exact decide_eq_false (by show ¬ ((v.toNat : Int) < 0); omega)
  · show IntOp.andi (BitVec.ofBool ((0#32).sle v)) (BitVec.ofBool (v.sle 999999#32)) = 1#1
    rw [WordCmp.andi_ofBool, hone, Bool.and_eq_true, BitVec.sle_eq_decide, BitVec.sle_eq_decide, hi]
    exact ⟨decide_eq_true (by show (0 : Int) ≤ v.toNat; omega), decide_eq_true (by show (v.toNat : Int) ≤ 999999; omega)⟩

/-! ## The gather -/

/-- The gather at `(i, j, k)`: column `k` of the row that the start index at `(i, j)` names. -/
theorem gather_at {α : Type} (b : S1000000x64.Idx → α) (idx : IVec S4096x200x1 32) (i : Fin 4096) (j : Fin 200) (k : Fin 64) (r : Fin 1000000)
    (hr : (idx (ix3 i j (0 : Fin 1))).toInt.toNat = r.val) :
    Host.gather gather_S1000000x64_S4096x200x1_S4096x200x64_2_0_n_n_0_2_164 b idx (ix3 i j k) = b (ix2 r k) := by
  unfold Host.gather
  refine congrArg b (funext fun a => Fin.ext ?_)
  show GatherDims.start _ (ix3 i j k) idx a + GatherDims.batchCoord _ (ix3 i j k) a + GatherDims.offCoord _ (ix3 i j k) a = _
  rw [GatherDims.batchCoord_eq_zero _ _ _ List.not_mem_nil, Nat.add_zero]
  match a with
  | ⟨0, _⟩ =>
    have h : GatherDims.start gather_S1000000x64_S4096x200x1_S4096x200x64_2_0_n_n_0_2_164 (ix3 i j k) idx (0 : Fin 2) = r.val := by
      unfold GatherDims.start
      refine (dif_pos (show (0 : Fin 2) ∈ ([0] : List (Fin 2)) from List.mem_singleton.mpr rfl)).trans ?_
      have hsi : gather_S1000000x64_S4096x200x1_S4096x200x64_2_0_n_n_0_2_164.siIdx (ix3 i j k) ⟨List.idxOf (0 : Fin 2)
          gather_S1000000x64_S4096x200x1_S4096x200x64_2_0_n_n_0_2_164.startIndexMap, List.idxOf_lt_length_iff.2 (List.mem_singleton.mpr rfl)⟩
          = ix3 i j (0 : Fin 1) := by
        funext b
        refine Fin.ext ?_
        match b with
        | ⟨0, _⟩ => rfl
        | ⟨1, _⟩ => rfl
        | ⟨2, _⟩ => rfl
      refine (congrArg (fun y => min (idx y).toInt.toNat 999999) hsi).trans ?_
      show min (idx (ix3 i j (0 : Fin 1))).toInt.toNat 999999 = r.val
      rw [hr]
      have := r.isLt
      omega
    refine (congrArg (· + _) h).trans ?_
    rw [GatherDims.offCoord_eq_zero _ _ _ (fun h => ((GatherDims.mem_sKept _ _).mp h).1 (List.mem_singleton.mpr rfl)), Nat.add_zero]
  | ⟨1, _⟩ =>
    have h : GatherDims.start gather_S1000000x64_S4096x200x1_S4096x200x64_2_0_n_n_0_2_164 (ix3 i j k) idx (1 : Fin 2) = 0 := by
      unfold GatherDims.start
      exact dif_neg (show (1 : Fin 2) ∉ ([0] : List (Fin 2)) by decide)
    refine (congrArg (· + _) h).trans ((Nat.zero_add _).trans ?_)
    rfl

/-! ## The value -/

/-- The indices, a negative one counted from the end. -/
def wrapped (a : IVec S4096x200 32) : IVec S4096x200 32 :=
  select (cmpi .slt a (broadcastInDim S4096x200 ![] bcast_S_S4096x200 (constantI S_ 32 0#32)))
    (addi a (broadcastInDim S4096x200 ![] bcast_S_S4096x200 (constantI S_ 32 1000000#32))) a

/-- Those, as start indices. -/
def starts (a : IVec S4096x200 32) : IVec S4096x200x1 32 := broadcastInDim S4096x200x1 ![0, 1] bcast_S4096x200_S4096x200x1_0_1 (wrapped a)

/-- Which start indices name a row. -/
def valid (a : IVec S4096x200 32) : IVec S4096x200x1 1 :=
  andi (cmpi .sge (starts a) (broadcastInDim S4096x200x1 ![] bcast_S_S4096x200x1 (constantI S_ 32 0#32)))
    (cmpi .sle (starts a) (broadcastInDim S4096x200x1 ![0, 1, 2] bcast_S1x1x1_S4096x200x1_0_1_2
      (broadcastInDim S1x1x1 ![2] bcast_S1_S1x1x1_2 (constantI S1 32 999999#32))))

/-- What the reference computes. -/
def taken {F : FTy → Type} [FloatOps F] (a : IVec S4096x200 32) (b : FVec F S1000000x64 .f32) : FVec F S4096x200x64 .f32 :=
  select (broadcastInDim S4096x200x64 ![0, 1] bcast_S4096x200_S4096x200x64_0_1
      (Host.reduce IntOp.andi (valid a) (constantI S_ 1 1#1) reducesTo_S4096x200x1_S4096x200_d2 h_S_))
    (Host.gather gather_S1000000x64_S4096x200x1_S4096x200x64_2_0_n_n_0_2_164 b (starts a))
    (broadcastInDim S4096x200x64 ![] bcast_S_S4096x200x64 (constant S_ .f32 0x7FC00000#32))

/-- When every index names a row, no index changes. -/
theorem wrapped_at (a : IVec S4096x200 32) (h : ∀ j, (a j).toNat < 1000000) (y : S4096x200.Idx) : wrapped a y = a y := by
  unfold wrapped select Scalar.select
  exact if_neg (fun e => absurd ((word_facts _ (h y)).1.symm.trans e) (by decide))

/-- When every index names a row, no start index differs from its index. -/
theorem starts_at (a : IVec S4096x200 32) (h : ∀ j, (a j).toNat < 1000000) (i : Fin 4096) (j : Fin 200) (z : Fin 1) :
    starts a (ix3 i j z) = a (ix2 i j) := by
  unfold starts
  exact (broadcastInDim_apply _ _ _ _ (ix2 i j) (fun b => match b with
    | ⟨0, _⟩ => rfl
    | ⟨1, _⟩ => rfl)).trans (wrapped_at a h _)

/-- When every index names a row, every start index is valid. -/
theorem valid_at (a : IVec S4096x200 32) (h : ∀ j, (a j).toNat < 1000000) (y : S4096x200x1.Idx) : valid a y = 1#1 := by
  rw [eq_ix3 y]
  have hs := starts_at a h (y 0) (y 1) (y 2)
  unfold valid
  show IntOp.andi (IntOp.cmpi .sge (starts a _) 0#32) (IntOp.cmpi .sle (starts a _) 999999#32) = 1#1
  refine (congrArg (fun w => IntOp.andi (IntOp.cmpi .sge w 0#32) (IntOp.cmpi .sle w 999999#32)) hs).trans ?_
  exact (word_facts _ (h _)).2.1

/-- When every index names a row, the reference looks up that row. -/
theorem taken_at {F : FTy → Type} [FloatOps F] (a : IVec S4096x200 32) (b : FVec F S1000000x64 .f32) (h : ∀ j, (a j).toNat < 1000000) :
    taken a b = fun x => b (ix2 (⟨(a (ix2 (x 0 : Fin 4096) (x 1 : Fin 200))).toNat % 1000000, Nat.mod_lt _ (by decide)⟩ : Fin 1000000) (x 2 : Fin 64)) := by
  funext x
  have hr : ∀ j, Host.reduce IntOp.andi (valid a) (constantI S_ 1 1#1) reducesTo_S4096x200x1_S4096x200_d2 h_S_ j = 1#1 := fun j =>
    Host.reduce_andi_one _ _ _ _ j rfl (valid_at a h)
  unfold taken select Scalar.select
  refine (if_pos ?_).trans ?_
  · unfold broadcastInDim
    exact hr _
  · have hx := eq_ix3 x
    refine (congrArg (Host.gather gather_S1000000x64_S4096x200x1_S4096x200x64_2_0_n_n_0_2_164 b (starts a)) hx).trans ?_
    refine gather_at b (starts a) (x 0) (x 1) (x 2) _ ?_
    refine (congrArg (fun w : BitVec 32 => w.toInt.toNat) (starts_at a h (x 0) (x 1) 0)).trans ?_
    exact (word_facts _ (h _)).2.2.trans (Nat.mod_eq_of_lt (h _)).symm

/-! ## The run -/

/-- The reference ends with the looked-up rows, its arguments as they were. -/
theorem value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0)
        = taken (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  unfold taken valid starts wrapped
  simp only [StableHlo.TRef.ofBuf_toBuf]
  simp only [StableHlo.TRef.ofBuf, StableHlo.TRef.toBuf, cast_eq]

/-- The reference's arguments end as they were, whatever they held, and it has no semaphore. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run (defs (F := Ideal)) _ _).mono (fun r h => ⟨fun c => (h c).2, sem_eq_zero_of_no_sems (by decide) r.2⟩) (value m g)

end Cert.Proof.ReferenceRun

end
-- ==== Proof.lean ====
/-
  The proof of `Cert.Claim`: the embedding lookup, its ideal reading and the reference run to the end, leave their
  arguments as they were and every semaphore at zero; and the ideal kernel and the reference compute the same rows.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Pre
public import proofs.«01_k».proof.Proof.KernelRun
public import proofs.«01_k».proof.Proof.KernelIdealRun
public import proofs.«01_k».proof.Proof.ReferenceRun
public import Idealize.ShloMosaic.Adequacy
public import Idealize.ShloMosaic.Init

@[expose] public section

noncomputable section

namespace Cert.Proof

open Idealize.ShloMosaic Idealize.SL.Sem

/-- The kernel's frame: the run of `KernelRun`, its value dropped. -/
theorem frame_kernel : Cert.quiescent_Kernel := fun m g hpre =>
  (θ_run Cert.Kernel.defs _ _).mono (fun _ h => ⟨fun c => (h.1 c).2, h.2⟩)
    (KernelRun.run_main (F := Bits) m g fun d j => Pre.idx_lt _ _ (hpre d) j)

/-- What the claims assume of the ideal kernel's launch memory gives what its run asks. -/
theorem ok_of_pre (m : (ℓ : Loc Cert.KernelIdeal.nD Cert.KernelIdeal.τ Cert.KernelIdeal.sig) → Buf (Elt Ideal) ℓ)
    (hpre : Cert.Pre_KernelIdeal m) : KernelIdealRun.PreOK (F := Ideal) m := fun d j => Pre.idx_lt _ _ (hpre d) j

/-- The ideal kernel's frame: the run of `KernelIdealRun`, its value dropped. -/
theorem frame_kernelIdeal : Cert.quiescent_KernelIdeal := fun m g hpre =>
  (θ_run Cert.KernelIdeal.defs _ _).mono (fun _ h => ⟨fun c => (h.1 c).2, h.2⟩)
    (KernelIdealRun.run_main (F := Ideal) m g (ok_of_pre m hpre))

/-- The ideal kernel and the reference end with the same rows: the row of the table that each index names. -/
theorem algebraic : Cert.algebraic_KernelIdeal_ReferenceIdeal := by
  intro m g m' g' hpre hagree
  have hok := ok_of_pre m hpre
  refine ⟨fun c => KernelIdealRun.look (F := Ideal) (m (KernelIdealRun.a0Loc c)) (m (KernelIdealRun.a1Loc c)), ?_, ?_⟩
  · exact (θ_run Cert.KernelIdeal.defs _ _).mono (fun _ h => h.1) (KernelIdealRun.run_main (F := Ideal) m g hok)
  · refine (θ_run Cert.ReferenceIdeal.defs _ _).mono (fun _ h c => ⟨(h c).1.trans ?_, (h c).2⟩) (ReferenceRun.value m' g')
    rw [(hagree c).1, (hagree c).2]
    exact ReferenceRun.taken_at _ _ (hok c)

/-- Every claim of the certificate. -/
theorem claim : Cert.Claim :=
  ⟨Cert.Kernel.Gen.facts, Cert.KernelIdeal.Gen.facts, Cert.ReferenceIdeal.Gen.facts, Cert.Pre_in_range.Gen.facts,
    frame_kernel, frame_kernelIdeal, fun m g _ => ReferenceRun.frame m g, fun m g _ => ReferenceRun.frame m g, trivial, algebraic⟩

end Cert.Proof

end
